-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "far" .f32 0x7F61B1E6#32 ⊤

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_well_posed : Cert.Pre_well_posed.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_well_posed.lean ====
abbrev S32x384x14x14 : Shape := ⟨4, ![32, 384, 14, 14]⟩
abbrev S768x384 : Shape := ⟨2, ![768, 384]⟩
abbrev S384 : Shape := ⟨1, ![384]⟩
abbrev S384x768 : Shape := ⟨2, ![384, 768]⟩
abbrev S768 : Shape := ⟨1, ![768]⟩
abbrev S1536x768 : Shape := ⟨2, ![1536, 768]⟩
abbrev S384x500 : Shape := ⟨2, ![384, 500]⟩
abbrev S500 : Shape := ⟨1, ![500]⟩
abbrev S500x64 : Shape := ⟨2, ![500, 64]⟩
abbrev S64 : Shape := ⟨1, ![64]⟩
abbrev S64x32 : Shape := ⟨2, ![64, 32]⟩
abbrev S32 : Shape := ⟨1, ![32]⟩
abbrev S32x9 : Shape := ⟨2, ![32, 9]⟩
abbrev S9 : Shape := ⟨1, ![9]⟩
abbrev S32x384x196 : Shape := ⟨3, ![32, 384, 196]⟩
abbrev S32x196x384 : Shape := ⟨3, ![32, 196, 384]⟩
abbrev S_ : Shape := ⟨0, ![]⟩
abbrev S32x196 : Shape := ⟨2, ![32, 196]⟩
abbrev S32x196x1 : Shape := ⟨3, ![32, 196, 1]⟩
abbrev S32x1x196 : Shape := ⟨3, ![32, 1, 196]⟩
abbrev S32x196x196 : Shape := ⟨3, ![32, 196, 196]⟩
abbrev S32x196x9 : Shape := ⟨3, ![32, 196, 9]⟩
abbrev S32x196x8 : Shape := ⟨3, ![32, 196, 8]⟩

class Facts : Prop where
  shapeCasts_S32x384x14x14_S32x384x196 : S32x384x14x14.ShapeCasts S32x384x196
  transposes_S32x384x196_S32x196x384_0_2_1 : S32x384x196.Transposes [0, 2, 1] S32x196x384
  reducesTo_S32x196x384_S32x196_d2 : S32x196x384.ReducesTo [2] S32x196
  h_S_ : 0 < S_.numel
  bcast_S32x196_S32x196x1_0_1 : S32x196.BroadcastsInDim S32x196x1 (![0, 1] : Fin 2 → Fin S32x196x1.rank)
  bcast_S32x196_S32x1x196_0_2 : S32x196.BroadcastsInDim S32x1x196 (![0, 2] : Fin 2 → Fin S32x1x196.rank)
  bcast_S32x196x1_S32x196x196_0_1_2 : S32x196x1.BroadcastsInDim S32x196x196 (![0, 1, 2] : Fin 3 → Fin S32x196x196.rank)
  bcast_S32x1x196_S32x196x196_0_1_2 : S32x1x196.BroadcastsInDim S32x196x196 (![0, 1, 2] : Fin 3 → Fin S32x196x196.rank)
  bcast_S_S32x196x196 : S_.BroadcastsInDim S32x196x196 (![] : Fin 0 → Fin S32x196x196.rank)
  sliceFits_S32x196x196_S32x196x9 : S32x196x196.Slices (fun _ => 0) S32x196x9
  bcast_S_S32x384x14x14 : S_.BroadcastsInDim S32x384x14x14 (![] : Fin 0 → Fin S32x384x14x14.rank)
  bcast_S_S768x384 : S_.BroadcastsInDim S768x384 (![] : Fin 0 → Fin S768x384.rank)
  bcast_S_S384 : S_.BroadcastsInDim S384 (![] : Fin 0 → Fin S384.rank)
  bcast_S_S384x768 : S_.BroadcastsInDim S384x768 (![] : Fin 0 → Fin S384x768.rank)
  bcast_S_S1536x768 : S_.BroadcastsInDim S1536x768 (![] : Fin 0 → Fin S1536x768.rank)
  slices_S32x196x9_S32x196x8_0_0_1 : S32x196x9.Slices ![0, 0, 1] S32x196x8
  slices_S32x196x9_S32x196x8_0_0_0 : S32x196x9.Slices ![0, 0, 0] S32x196x8
  dot_S32x196x384_S32x196x384_S32x196x196_2_2_1_1_0_0_wf : DotDims.WF S32x196x384 S32x196x384 S32x196x196 [2] [2] [1] [1] [0] [0]

variable [Facts]

def dot_S32x196x384_S32x196x384_S32x196x196_2_2_1_1_0_0 : DotDims S32x196x384 S32x196x384 S32x196x196 where
  lhsContracting := [2]
  rhsContracting := [2]
  lhsNonContracting := [1]
  rhsNonContracting := [1]
  lhsBatch := [0]
  rhsBatch := [0]
  wf := dot_S32x196x384_S32x196x384_S32x196x196_2_2_1_1_0_0_wf
def fn_part2 {F : FTy → Type} [FloatOps F] (main_values : FVec F S32x196x9 .f32) (main_v16 : IVec S32x384x14x14 1) (main_v19 : IVec S768x384 1) (main_v22 : IVec S384 1) (main_v25 : IVec S768x384 1) (main_v28 : IVec S384 1) (main_v31 : IVec S384x768 1) (main_v34 : IVec S384x768 1) (main_v35 : FVec F S1536x768 .f32) (main_cst_8 : FVec F S_ .f32) : IVec S32x384x14x14 1 × IVec S768x384 1 × IVec S384 1 × IVec S768x384 1 × IVec S384 1 × IVec S384x768 1 × IVec S384x768 1 × IVec S1536x768 1 × IVec S32x196x8 1 :=
  let main_v36 : FVec F S1536x768 .f32 := broadcastInDim S1536x768 ![] bcast_S_S1536x768 main_cst_8
  let main_v37 : IVec S1536x768 1 := cmpf .olt main_v35 main_v36
  let main_v38 : FVec F S32x196x8 .f32 := (extractStridedSlice S32x196x8 ![0, 0, 1] · slices_S32x196x9_S32x196x8_0_0_1) main_values
  let main_v39 : FVec F S32x196x8 .f32 := (extractStridedSlice S32x196x8 ![0, 0, 0] · slices_S32x196x9_S32x196x8_0_0_0) main_values
  let main_v40 : IVec S32x196x8 1 := cmpf .olt main_v38 main_v39
  (main_v16, main_v19, main_v22, main_v25, main_v28, main_v31, main_v34, main_v37, main_v40)

def fn_part1 {F : FTy → Type} [FloatOps F] (main_arg2 : FVec F S384 .f32) (main_arg3 : FVec F S768x384 .f32) (main_arg4 : FVec F S384 .f32) (main_arg5 : FVec F S384x768 .f32) (main_arg7 : FVec F S384x768 .f32) (main_arg9 : FVec F S1536x768 .f32) (main_values : FVec F S32x196x9 .f32) (main_v16 : IVec S32x384x14x14 1) (main_v17 : FVec F S768x384 .f32) (main_cst_2 : FVec F S_ .f32) : IVec S32x384x14x14 1 × IVec S768x384 1 × IVec S384 1 × IVec S768x384 1 × IVec S384 1 × IVec S384x768 1 × IVec S384x768 1 × IVec S1536x768 1 × IVec S32x196x8 1 :=
  let main_v18 : FVec F S768x384 .f32 := broadcastInDim S768x384 ![] bcast_S_S768x384 main_cst_2
  let main_v19 : IVec S768x384 1 := cmpf .olt main_v17 main_v18
  let main_v20 : FVec F S384 .f32 := Host.absf main_arg2
  let main_cst_3 : FVec F S_ .f32 := constant S_ .f32 0x7F800000#32
  let main_v21 : FVec F S384 .f32 := broadcastInDim S384 ![] bcast_S_S384 main_cst_3
  let main_v22 : IVec S384 1 := cmpf .olt main_v20 main_v21
  let main_v23 : FVec F S768x384 .f32 := Host.absf main_arg3
  let main_cst_4 : FVec F S_ .f32 := constant S_ .f32 0x7F800000#32
  let main_v24 : FVec F S768x384 .f32 := broadcastInDim S768x384 ![] bcast_S_S768x384 main_cst_4
  let main_v25 : IVec S768x384 1 := cmpf .olt main_v23 main_v24
  let main_v26 : FVec F S384 .f32 := Host.absf main_arg4
  let main_cst_5 : FVec F S_ .f32 := constant S_ .f32 0x7F800000#32
  let main_v27 : FVec F S384 .f32 := broadcastInDim S384 ![] bcast_S_S384 main_cst_5
  let main_v28 : IVec S384 1 := cmpf .olt main_v26 main_v27
  let main_v29 : FVec F S384x768 .f32 := Host.absf main_arg5
  let main_cst_6 : FVec F S_ .f32 := constant S_ .f32 0x7F800000#32
  let main_v30 : FVec F S384x768 .f32 := broadcastInDim S384x768 ![] bcast_S_S384x768 main_cst_6
  let main_v31 : IVec S384x768 1 := cmpf .olt main_v29 main_v30
  let main_v32 : FVec F S384x768 .f32 := Host.absf main_arg7
  let main_cst_7 : FVec F S_ .f32 := constant S_ .f32 0x7F800000#32
  let main_v33 : FVec F S384x768 .f32 := broadcastInDim S384x768 ![] bcast_S_S384x768 main_cst_7
  let main_v34 : IVec S384x768 1 := cmpf .olt main_v32 main_v33
  let main_v35 : FVec F S1536x768 .f32 := Host.absf main_arg9
  let main_cst_8 : FVec F S_ .f32 := constant S_ .f32 0x7F800000#32
  fn_part2 (F := F) main_values main_v16 main_v19 main_v22 main_v25 main_v28 main_v31 main_v34 main_v35 main_cst_8

def fn {F : FTy → Type} [FloatOps F] (main_arg0 : FVec F S32x384x14x14 .f32) (main_arg1 : FVec F S768x384 .f32) (main_arg2 : FVec F S384 .f32) (main_arg3 : FVec F S768x384 .f32) (main_arg4 : FVec F S384 .f32) (main_arg5 : FVec F S384x768 .f32) (main_arg6 : FVec F S768 .f32) (main_arg7 : FVec F S384x768 .f32) (main_arg8 : FVec F S768 .f32) (main_arg9 : FVec F S1536x768 .f32) (main_arg10 : FVec F S768 .f32) (main_arg11 : FVec F S384x500 .f32) (main_arg12 : FVec F S500 .f32) (main_arg13 : FVec F S500x64 .f32) (main_arg14 : FVec F S64 .f32) (main_arg15 : FVec F S64x32 .f32) (main_arg16 : FVec F S32 .f32) (main_arg17 : FVec F S32x9 .f32) (main_arg18 : FVec F S9 .f32) : IVec S32x384x14x14 1 × IVec S768x384 1 × IVec S384 1 × IVec S768x384 1 × IVec S384 1 × IVec S384x768 1 × IVec S384x768 1 × IVec S1536x768 1 × IVec S32x196x8 1 :=
  let main_v0 : FVec F S32x384x196 .f32 := shapeCast S32x384x196 main_arg0 shapeCasts_S32x384x14x14_S32x384x196
  let main_v1 : FVec F S32x196x384 .f32 := (transpose S32x196x384 [0, 2, 1] · transposes_S32x384x196_S32x196x384_0_2_1) main_v0
  let main_v2 : FVec F S32x196x384 .f32 := mulf main_v1 main_v1
  let main_cst : FVec F S_ .f32 := constant S_ .f32 0x00000000#32
  let main_v3 : FVec F S32x196 .f32 := (fun x v => Host.reduceAdd x v reducesTo_S32x196x384_S32x196_d2 h_S_) main_v2 main_cst
  let main_v4 : FVec F S32x196x1 .f32 := broadcastInDim S32x196x1 ![0, 1] bcast_S32x196_S32x196x1_0_1 main_v3
  let main_v5 : FVec F S32x1x196 .f32 := broadcastInDim S32x1x196 ![0, 2] bcast_S32x196_S32x1x196_0_2 main_v3
  let main_v6 : FVec F S32x196x196 .f32 := broadcastInDim S32x196x196 ![0, 1, 2] bcast_S32x196x1_S32x196x196_0_1_2 main_v4
  let main_v7 : FVec F S32x196x196 .f32 := broadcastInDim S32x196x196 ![0, 1, 2] bcast_S32x1x196_S32x196x196_0_1_2 main_v5
  let main_v8 : FVec F S32x196x196 .f32 := addf main_v6 main_v7
  let main_v9 : FVec F S32x196x196 .f32 := (fun l r => Host.dotGeneral dot_S32x196x384_S32x196x384_S32x196x196_2_2_1_1_0_0 none l r) main_v1 main_v1
  let main_cst_0 : FVec F S_ .f32 := constant S_ .f32 0x40000000#32
  let main_v10 : FVec F S32x196x196 .f32 := broadcastInDim S32x196x196 ![] bcast_S_S32x196x196 main_cst_0
  let main_v11 : FVec F S32x196x196 .f32 := mulf main_v10 main_v9
  let main_v12 : FVec F S32x196x196 .f32 := subf main_v8 main_v11
  let main_v13 : FVec F S32x196x196 .f32 := Host.negf main_v12
  let main_values : FVec F S32x196x9 .f32 := (fun x => (Host.topK S32x196x9 2 (FloatOps.cmpfTotal .gt) x sliceFits_S32x196x196_S32x196x9).1) main_v13
  let main_indices : IVec S32x196x9 32 := (fun x => (Host.topK S32x196x9 2 (FloatOps.cmpfTotal .gt) x sliceFits_S32x196x196_S32x196x9).2) main_v13
  let main_v14 : FVec F S32x384x14x14 .f32 := Host.absf main_arg0
  let main_cst_1 : FVec F S_ .f32 := constant S_ .f32 0x7F800000#32
  let main_v15 : FVec F S32x384x14x14 .f32 := broadcastInDim S32x384x14x14 ![] bcast_S_S32x384x14x14 main_cst_1
  let main_v16 : IVec S32x384x14x14 1 := cmpf .olt main_v14 main_v15
  let main_v17 : FVec F S768x384 .f32 := Host.absf main_arg1
  let main_cst_2 : FVec F S_ .f32 := constant S_ .f32 0x7F800000#32
  fn_part1 (F := F) main_arg2 main_arg3 main_arg4 main_arg5 main_arg7 main_arg9 main_values main_v16 main_v17 main_cst_2
-- ==== Kernel.lean ====
abbrev S32x384x14x14 : Shape := ⟨4, ![32, 384, 14, 14]⟩
abbrev S768x384 : Shape := ⟨2, ![768, 384]⟩
abbrev S384 : Shape := ⟨1, ![384]⟩
abbrev S384x768 : Shape := ⟨2, ![384, 768]⟩
abbrev S768 : Shape := ⟨1, ![768]⟩
abbrev S1536x768 : Shape := ⟨2, ![1536, 768]⟩
abbrev S384x500 : Shape := ⟨2, ![384, 500]⟩
abbrev S500 : Shape := ⟨1, ![500]⟩
abbrev S500x64 : Shape := ⟨2, ![500, 64]⟩
abbrev S64 : Shape := ⟨1, ![64]⟩
abbrev S64x32 : Shape := ⟨2, ![64, 32]⟩
abbrev S32 : Shape := ⟨1, ![32]⟩
abbrev S32x9 : Shape := ⟨2, ![32, 9]⟩
abbrev S9 : Shape := ⟨1, ![9]⟩
abbrev S32x384x196 : Shape := ⟨3, ![32, 384, 196]⟩
abbrev S32x196x384 : Shape := ⟨3, ![32, 196, 384]⟩
abbrev S1x384 : Shape := ⟨2, ![1, 384]⟩
abbrev S1x768 : Shape := ⟨2, ![1, 768]⟩
abbrev S1x500 : Shape := ⟨2, ![1, 500]⟩
abbrev S1x64 : Shape := ⟨2, ![1, 64]⟩
abbrev S1x32 : Shape := ⟨2, ![1, 32]⟩
abbrev S1x9 : Shape := ⟨2, ![1, 9]⟩
abbrev S32x196x768 : Shape := ⟨3, ![32, 196, 768]⟩
abbrev S32x768x196 : Shape := ⟨3, ![32, 768, 196]⟩
abbrev S32x768x14x14 : Shape := ⟨4, ![32, 768, 14, 14]⟩
abbrev S8x196x384 : Shape := ⟨3, ![8, 196, 384]⟩
abbrev S8x196x768 : Shape := ⟨3, ![8, 196, 768]⟩
abbrev S384x384 : Shape := ⟨2, ![384, 384]⟩
abbrev S768x768 : Shape := ⟨2, ![768, 768]⟩
abbrev S1x196x384 : Shape := ⟨3, ![1, 196, 384]⟩
abbrev S196x384 : Shape := ⟨2, ![196, 384]⟩
abbrev S196x500 : Shape := ⟨2, ![196, 500]⟩
abbrev S196x64 : Shape := ⟨2, ![196, 64]⟩
abbrev S196x32 : Shape := ⟨2, ![196, 32]⟩
abbrev S196x9 : Shape := ⟨2, ![196, 9]⟩
abbrev S196 : Shape := ⟨1, ![196]⟩
abbrev S196x1 : Shape := ⟨2, ![196, 1]⟩
abbrev S1x196 : Shape := ⟨2, ![1, 196]⟩
abbrev S196x196 : Shape := ⟨2, ![196, 196]⟩
abbrev S196x768 : Shape := ⟨2, ![196, 768]⟩
abbrev S1x196x768 : Shape := ⟨3, ![1, 196, 768]⟩

abbrev nBuf : Space → Nat
  | .hbm => 33
  | .vmem => 27
  | .smem => 0
  | _ => 0

abbrev bufTy : (tb : Table) → Fin (tcTables nBuf tb) → BufTy
  | .hbm, ⟨0, _⟩ => ⟨S32x384x14x14, .f32⟩
  | .hbm, ⟨1, _⟩ => ⟨S768x384, .f32⟩
  | .hbm, ⟨2, _⟩ => ⟨S384, .f32⟩
  | .hbm, ⟨3, _⟩ => ⟨S768x384, .f32⟩
  | .hbm, ⟨4, _⟩ => ⟨S384, .f32⟩
  | .hbm, ⟨5, _⟩ => ⟨S384x768, .f32⟩
  | .hbm, ⟨6, _⟩ => ⟨S768, .f32⟩
  | .hbm, ⟨7, _⟩ => ⟨S384x768, .f32⟩
  | .hbm, ⟨8, _⟩ => ⟨S768, .f32⟩
  | .hbm, ⟨9, _⟩ => ⟨S1536x768, .f32⟩
  | .hbm, ⟨10, _⟩ => ⟨S768, .f32⟩
  | .hbm, ⟨11, _⟩ => ⟨S384x500, .f32⟩
  | .hbm, ⟨12, _⟩ => ⟨S500, .f32⟩
  | .hbm, ⟨13, _⟩ => ⟨S500x64, .f32⟩
  | .hbm, ⟨14, _⟩ => ⟨S64, .f32⟩
  | .hbm, ⟨15, _⟩ => ⟨S64x32, .f32⟩
  | .hbm, ⟨16, _⟩ => ⟨S32, .f32⟩
  | .hbm, ⟨17, _⟩ => ⟨S32x9, .f32⟩
  | .hbm, ⟨18, _⟩ => ⟨S9, .f32⟩
  | .hbm, ⟨19, _⟩ => ⟨S32x384x196, .f32⟩
  | .hbm, ⟨20, _⟩ => ⟨S32x196x384, .f32⟩
  | .hbm, ⟨21, _⟩ => ⟨S1x384, .f32⟩
  | .hbm, ⟨22, _⟩ => ⟨S1x384, .f32⟩
  | .hbm, ⟨23, _⟩ => ⟨S1x768, .f32⟩
  | .hbm, ⟨24, _⟩ => ⟨S1x768, .f32⟩
  | .hbm, ⟨25, _⟩ => ⟨S1x768, .f32⟩
  | .hbm, ⟨26, _⟩ => ⟨S1x500, .f32⟩
  | .hbm, ⟨27, _⟩ => ⟨S1x64, .f32⟩
  | .hbm, ⟨28, _⟩ => ⟨S1x32, .f32⟩
  | .hbm, ⟨29, _⟩ => ⟨S1x9, .f32⟩
  | .hbm, ⟨30, _⟩ => ⟨S32x196x768, .f32⟩
  | .hbm, ⟨31, _⟩ => ⟨S32x768x196, .f32⟩
  | .hbm, ⟨32, _⟩ => ⟨S32x768x14x14, .f32⟩
  | .local _ .vmem, ⟨0, _⟩ => ⟨S8x196x384, .f32⟩
  | .local _ .vmem, ⟨1, _⟩ => ⟨S8x196x384, .f32⟩
  | .local _ .vmem, ⟨2, _⟩ => ⟨S768x384, .f32⟩
  | .local _ .vmem, ⟨3, _⟩ => ⟨S1x384, .f32⟩
  | .local _ .vmem, ⟨4, _⟩ => ⟨S768x384, .f32⟩
  | .local _ .vmem, ⟨5, _⟩ => ⟨S1x384, .f32⟩
  | .local _ .vmem, ⟨6, _⟩ => ⟨S384x768, .f32⟩
  | .local _ .vmem, ⟨7, _⟩ => ⟨S1x768, .f32⟩
  | .local _ .vmem, ⟨8, _⟩ => ⟨S384x768, .f32⟩
  | .local _ .vmem, ⟨9, _⟩ => ⟨S1x768, .f32⟩
  | .local _ .vmem, ⟨10, _⟩ => ⟨S1536x768, .f32⟩
  | .local _ .vmem, ⟨11, _⟩ => ⟨S1x768, .f32⟩
  | .local _ .vmem, ⟨12, _⟩ => ⟨S384x500, .f32⟩
  | .local _ .vmem, ⟨13, _⟩ => ⟨S1x500, .f32⟩
  | .local _ .vmem, ⟨14, _⟩ => ⟨S500x64, .f32⟩
  | .local _ .vmem, ⟨15, _⟩ => ⟨S1x64, .f32⟩
  | .local _ .vmem, ⟨16, _⟩ => ⟨S64x32, .f32⟩
  | .local _ .vmem, ⟨17, _⟩ => ⟨S1x32, .f32⟩
  | .local _ .vmem, ⟨18, _⟩ => ⟨S32x9, .f32⟩
  | .local _ .vmem, ⟨19, _⟩ => ⟨S1x9, .f32⟩
  | .local _ .vmem, ⟨20, _⟩ => ⟨S8x196x768, .f32⟩
  | .local _ .vmem, ⟨21, _⟩ => ⟨S8x196x768, .f32⟩
  | .local _ .vmem, ⟨22, _⟩ => ⟨S384x768, .bf16⟩
  | .local _ .vmem, ⟨23, _⟩ => ⟨S384x768, .bf16⟩
  | .local _ .vmem, ⟨24, _⟩ => ⟨S1x768, .f32⟩
  | .local _ .vmem, ⟨25, _⟩ => ⟨S384x384, .f32⟩
  | .local _ .vmem, ⟨26, _⟩ => ⟨S384x384, .f32⟩
  | _, _ => ⟨S32x384x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_v0 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg19_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem19_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x196x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1536x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S384x500 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x500 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S500x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S32x9 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x9 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S8x196x768 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== KernelIdeal.lean ====
variable {F : FTy → Type} [FloatOps F] [Named F]
def κ : String → Option EReal := fun
  | "far" => some ⊤
  | _ => none
-- ==== ReferenceIdeal.lean ====
abbrev S32x384x14x14 : Shape := ⟨4, ![32, 384, 14, 14]⟩
abbrev S768x384 : Shape := ⟨2, ![768, 384]⟩
abbrev S384 : Shape := ⟨1, ![384]⟩
abbrev S384x768 : Shape := ⟨2, ![384, 768]⟩
abbrev S768 : Shape := ⟨1, ![768]⟩
abbrev S1536x768 : Shape := ⟨2, ![1536, 768]⟩
abbrev S384x500 : Shape := ⟨2, ![384, 500]⟩
abbrev S500 : Shape := ⟨1, ![500]⟩
abbrev S500x64 : Shape := ⟨2, ![500, 64]⟩
abbrev S64 : Shape := ⟨1, ![64]⟩
abbrev S64x32 : Shape := ⟨2, ![64, 32]⟩
abbrev S32 : Shape := ⟨1, ![32]⟩
abbrev S32x9 : Shape := ⟨2, ![32, 9]⟩
abbrev S9 : Shape := ⟨1, ![9]⟩
abbrev S32x384x196 : Shape := ⟨3, ![32, 384, 196]⟩
abbrev S32x196x384 : Shape := ⟨3, ![32, 196, 384]⟩
abbrev S_ : Shape := ⟨0, ![]⟩
abbrev S32x196 : Shape := ⟨2, ![32, 196]⟩
abbrev S32x196x1 : Shape := ⟨3, ![32, 196, 1]⟩
abbrev S32x1x196 : Shape := ⟨3, ![32, 1, 196]⟩
abbrev S32x196x196 : Shape := ⟨3, ![32, 196, 196]⟩
abbrev S32x196x9 : Shape := ⟨3, ![32, 196, 9]⟩
abbrev S196 : Shape := ⟨1, ![196]⟩
abbrev S1x196x1 : Shape := ⟨3, ![1, 196, 1]⟩
abbrev S32x1x1 : Shape := ⟨3, ![32, 1, 1]⟩
abbrev S56448 : Shape := ⟨1, ![56448]⟩
abbrev S6272x384 : Shape := ⟨2, ![6272, 384]⟩
abbrev S6272x500 : Shape := ⟨2, ![6272, 500]⟩
abbrev S1x500 : Shape := ⟨2, ![1, 500]⟩
abbrev S6272x64 : Shape := ⟨2, ![6272, 64]⟩
abbrev S1x64 : Shape := ⟨2, ![1, 64]⟩
abbrev S6272x32 : Shape := ⟨2, ![6272, 32]⟩
abbrev S1x32 : Shape := ⟨2, ![1, 32]⟩
abbrev S6272x9 : Shape := ⟨2, ![6272, 9]⟩
abbrev S1x9 : Shape := ⟨2, ![1, 9]⟩
abbrev S6272 : Shape := ⟨1, ![6272]⟩
abbrev S6272x1 : Shape := ⟨2, ![6272, 1]⟩
abbrev S56448x1 : Shape := ⟨2, ![56448, 1]⟩
abbrev S56448x384 : Shape := ⟨2, ![56448, 384]⟩
abbrev S56448x768 : Shape := ⟨2, ![56448, 768]⟩
abbrev S1x384 : Shape := ⟨2, ![1, 384]⟩
abbrev S6272x768 : Shape := ⟨2, ![6272, 768]⟩
abbrev S1x768 : Shape := ⟨2, ![1, 768]⟩
abbrev S6272x1536 : Shape := ⟨2, ![6272, 1536]⟩
abbrev S32x196x768 : Shape := ⟨3, ![32, 196, 768]⟩
abbrev S32x768x196 : Shape := ⟨3, ![32, 768, 196]⟩
abbrev S32x768x14x14 : Shape := ⟨4, ![32, 768, 14, 14]⟩

abbrev nBuf : Space → Nat
  | .hbm => 170
  | .vmem => 0
  | .smem => 0
  | _ => 0

abbrev hbmTy0_0 (i : Nat) : BufTy := match i % 128 with
  | 0 => ⟨S32x384x14x14, .f32⟩
  | 1 => ⟨S768x384, .f32⟩
  | 2 => ⟨S384, .f32⟩
  | 3 => ⟨S768x384, .f32⟩
  | 4 => ⟨S384, .f32⟩
  | 5 => ⟨S384x768, .f32⟩
  | 6 => ⟨S768, .f32⟩
  | 7 => ⟨S384x768, .f32⟩
  | 8 => ⟨S768, .f32⟩
  | 9 => ⟨S1536x768, .f32⟩
  | 10 => ⟨S768, .f32⟩
  | 11 => ⟨S384x500, .f32⟩
  | 12 => ⟨S500, .f32⟩
  | 13 => ⟨S500x64, .f32⟩
  | 14 => ⟨S64, .f32⟩
  | 15 => ⟨S64x32, .f32⟩
  | 16 => ⟨S32, .f32⟩
  | 17 => ⟨S32x9, .f32⟩
  | 18 => ⟨S9, .f32⟩
  | 19 => ⟨S32x384x196, .f32⟩
  | 20 => ⟨S32x196x384, .f32⟩
  | 21 => ⟨S32x384x196, .f32⟩
  | 22 => ⟨S32x196x384, .f32⟩
  | 23 => ⟨S32x196x384, .f32⟩
  | 24 => ⟨S_, .f32⟩
  | 25 => ⟨S32x196, .f32⟩
  | 26 => ⟨S32x196x1, .f32⟩
  | 27 => ⟨S32x1x196, .f32⟩
  | 28 => ⟨S32x196x196, .f32⟩
  | 29 => ⟨S32x196x196, .f32⟩
  | 30 => ⟨S32x196x196, .f32⟩
  | 31 => ⟨S32x196x196, .f32⟩
  | 32 => ⟨S_, .f32⟩
  | 33 => ⟨S32x196x196, .f32⟩
  | 34 => ⟨S32x196x196, .f32⟩
  | 35 => ⟨S32x196x196, .f32⟩
  | 36 => ⟨S32x196x196, .f32⟩
  | 37 => ⟨S32x196x9, .f32⟩
  | 38 => ⟨S32x196x9, .i32⟩
  | 39 => ⟨S196, .i32⟩
  | 40 => ⟨S1x196x1, .i32⟩
  | 41 => ⟨S32x196x9, .i32⟩
  | 42 => ⟨S32, .i32⟩
  | 43 => ⟨S_, .i32⟩
  | 44 => ⟨S32, .i32⟩
  | 45 => ⟨S32, .i32⟩
  | 46 => ⟨S32x1x1, .i32⟩
  | 47 => ⟨S32x196x9, .i32⟩
  | 48 => ⟨S32x196x9, .i32⟩
  | 49 => ⟨S56448, .i32⟩
  | 50 => ⟨S32x196x9, .i32⟩
  | 51 => ⟨S32x196x9, .i32⟩
  | 52 => ⟨S56448, .i32⟩
  | 53 => ⟨S6272x384, .f32⟩
  | 54 => ⟨S6272x500, .f32⟩
  | 55 => ⟨S1x500, .f32⟩
  | 56 => ⟨S6272x500, .f32⟩
  | 57 => ⟨S6272x500, .f32⟩
  | 58 => ⟨S6272x64, .f32⟩
  | 59 => ⟨S1x64, .f32⟩
  | 60 => ⟨S6272x64, .f32⟩
  | 61 => ⟨S6272x64, .f32⟩
  | 62 => ⟨S_, .f32⟩
  | 63 => ⟨S6272x64, .f32⟩
  | 64 => ⟨S6272x64, .f32⟩
  | 65 => ⟨S6272x32, .f32⟩
  | 66 => ⟨S1x32, .f32⟩
  | 67 => ⟨S6272x32, .f32⟩
  | 68 => ⟨S6272x32, .f32⟩
  | 69 => ⟨S6272x9, .f32⟩
  | 70 => ⟨S1x9, .f32⟩
  | 71 => ⟨S6272x9, .f32⟩
  | 72 => ⟨S6272x9, .f32⟩
  | 73 => ⟨S6272x9, .i32⟩
  | 74 => ⟨S_, .f32⟩
  | 75 => ⟨S_, .i32⟩
  | 76 => ⟨S6272, .f32⟩
  | 77 => ⟨S6272, .i32⟩
  | 78 => ⟨S9, .i32⟩
  | 79 => ⟨S1x9, .i32⟩
  | 80 => ⟨S6272x1, .i32⟩
  | 81 => ⟨S6272x9, .i32⟩
  | 82 => ⟨S6272x9, .i32⟩
  | 83 => ⟨S6272x9, .i1⟩
  | 84 => ⟨S56448, .i1⟩
  | 85 => ⟨S56448, .f32⟩
  | 86 => ⟨S_, .i32⟩
  | 87 => ⟨S56448, .i32⟩
  | 88 => ⟨S56448, .i1⟩
  | 89 => ⟨S_, .i32⟩
  | 90 => ⟨S56448, .i32⟩
  | 91 => ⟨S56448, .i32⟩
  | 92 => ⟨S56448, .i32⟩
  | 93 => ⟨S56448x1, .i32⟩
  | 94 => ⟨S56448x384, .f32⟩
  | 95 => ⟨S_, .i32⟩
  | 96 => ⟨S56448, .i32⟩
  | 97 => ⟨S56448, .i1⟩
  | 98 => ⟨S_, .i32⟩
  | 99 => ⟨S56448, .i32⟩
  | 100 => ⟨S56448, .i32⟩
  | 101 => ⟨S56448, .i32⟩
  | 102 => ⟨S56448x1, .i32⟩
  | 103 => ⟨S56448x384, .f32⟩
  | 104 => ⟨S56448x384, .f32⟩
  | 105 => ⟨S56448x768, .f32⟩
  | 106 => ⟨S56448x384, .f32⟩
  | 107 => ⟨S1x384, .f32⟩
  | 108 => ⟨S56448x384, .f32⟩
  | 109 => ⟨S56448x384, .f32⟩
  | 110 => ⟨S56448x1, .f32⟩
  | 111 => ⟨S56448x384, .f32⟩
  | 112 => ⟨S56448x384, .f32⟩
  | 113 => ⟨S_, .f32⟩
  | 114 => ⟨S6272x384, .f32⟩
  | 115 => ⟨S56448x1, .i32⟩
  | 116 => ⟨S6272x384, .f32⟩
  | 117 => ⟨S_, .f32⟩
  | 118 => ⟨S6272x384, .f32⟩
  | 119 => ⟨S6272x384, .f32⟩
  | 120 => ⟨S_, .i32⟩
  | 121 => ⟨S56448, .i32⟩
  | 122 => ⟨S56448, .i1⟩
  | 123 => ⟨S_, .i32⟩
  | 124 => ⟨S56448, .i32⟩
  | 125 => ⟨S56448, .i32⟩
  | 126 => ⟨S56448, .i32⟩
  | 127 => ⟨S56448x1, .i32⟩
  | _ => ⟨S32x384x14x14, .f32⟩

abbrev hbmTy0_1 (i : Nat) : BufTy := match i % 128 with
  | 0 => ⟨S56448x384, .f32⟩
  | 1 => ⟨S_, .i32⟩
  | 2 => ⟨S56448, .i32⟩
  | 3 => ⟨S56448, .i1⟩
  | 4 => ⟨S_, .i32⟩
  | 5 => ⟨S56448, .i32⟩
  | 6 => ⟨S56448, .i32⟩
  | 7 => ⟨S56448, .i32⟩
  | 8 => ⟨S56448x1, .i32⟩
  | 9 => ⟨S56448x384, .f32⟩
  | 10 => ⟨S56448x384, .f32⟩
  | 11 => ⟨S56448x768, .f32⟩
  | 12 => ⟨S56448x384, .f32⟩
  | 13 => ⟨S1x384, .f32⟩
  | 14 => ⟨S56448x384, .f32⟩
  | 15 => ⟨S56448x384, .f32⟩
  | 16 => ⟨S56448x1, .f32⟩
  | 17 => ⟨S56448x384, .f32⟩
  | 18 => ⟨S56448x384, .f32⟩
  | 19 => ⟨S_, .f32⟩
  | 20 => ⟨S6272x384, .f32⟩
  | 21 => ⟨S56448x1, .i32⟩
  | 22 => ⟨S6272x384, .f32⟩
  | 23 => ⟨S6272x768, .f32⟩
  | 24 => ⟨S1x768, .f32⟩
  | 25 => ⟨S6272x768, .f32⟩
  | 26 => ⟨S6272x768, .f32⟩
  | 27 => ⟨S6272x768, .f32⟩
  | 28 => ⟨S1x768, .f32⟩
  | 29 => ⟨S6272x768, .f32⟩
  | 30 => ⟨S6272x768, .f32⟩
  | 31 => ⟨S6272x1536, .f32⟩
  | 32 => ⟨S6272x768, .f32⟩
  | 33 => ⟨S1x768, .f32⟩
  | 34 => ⟨S6272x768, .f32⟩
  | 35 => ⟨S6272x768, .f32⟩
  | 36 => ⟨S_, .f32⟩
  | 37 => ⟨S6272x768, .f32⟩
  | 38 => ⟨S6272x768, .f32⟩
  | 39 => ⟨S32x196x768, .f32⟩
  | 40 => ⟨S32x768x196, .f32⟩
  | 41 => ⟨S32x768x14x14, .f32⟩
  | _ => ⟨S32x384x14x14, .f32⟩

abbrev hbmTy (i : Nat) : BufTy := match i / 128 with
  | 0 => hbmTy0_0 i
  | 1 => hbmTy0_1 i
  | _ => ⟨S32x384x14x14, .f32⟩

abbrev bufTy : (tb : Table) → Fin (tcTables nBuf tb) → BufTy
  | .hbm, ⟨i, _⟩ => hbmTy i
  | _, _ => ⟨S32x384x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_values : Ref sig .tc := ⟨.hbm, 37, rfl⟩
abbrev main_indices : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_call0_cst : Ref sig .tc := ⟨.hbm, 62, rfl⟩
abbrev main_call0_v0 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_v0 : Ref sig .tc := ⟨.hbm, 73, rfl⟩
abbrev main_call1_cst : Ref sig .tc := ⟨.hbm, 74, rfl⟩
abbrev main_call1_c : Ref sig .tc := ⟨.hbm, 75, rfl⟩
abbrev main_call1_v1_0 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_1 : Ref sig .tc := ⟨.hbm, 86, rfl⟩
abbrev main_v56 : Ref sig .tc := ⟨.hbm, 87, rfl⟩
abbrev main_v57 : Ref sig .tc := ⟨.hbm, 88, rfl⟩
abbrev main_c_2 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_3 : Ref sig .tc := ⟨.hbm, 95, rfl⟩
abbrev main_v63 : Ref sig .tc := ⟨.hbm, 96, rfl⟩
abbrev main_v64 : Ref sig .tc := ⟨.hbm, 97, rfl⟩
abbrev main_c_4 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_5 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_call2_cst : Ref sig .tc := ⟨.hbm, 117, rfl⟩
abbrev main_call2_v0 : Ref sig .tc := ⟨.hbm, 118, rfl⟩
abbrev main_v82 : Ref sig .tc := ⟨.hbm, 119, rfl⟩
abbrev main_c_6 : Ref sig .tc := ⟨.hbm, 120, rfl⟩
abbrev main_v83 : Ref sig .tc := ⟨.hbm, 121, rfl⟩
abbrev main_v84 : Ref sig .tc := ⟨.hbm, 122, rfl⟩
abbrev main_c_7 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_c_8 : Ref sig .tc := ⟨.hbm, 129, rfl⟩
abbrev main_v90 : Ref sig .tc := ⟨.hbm, 130, rfl⟩
abbrev main_v91 : Ref sig .tc := ⟨.hbm, 131, rfl⟩
abbrev main_c_9 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_10 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_call3_cst : Ref sig .tc := ⟨.hbm, 164, rfl⟩
abbrev main_call3_v0 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩

abbrev nD : Nat := 1
abbrev τ : Topo := Topo.v7x

variable {F : FTy → Type} [FloatOps F]
-- ==== Proof.Image.lean ====
/- What the kernel computes of one image, as one function of the image's rows and the weights: the composition of the
   values its body stores for the first of the eight images of a block. -/
module

public import proofs.«01_k».proof.Proof.Gen.KernelIdeal.Skeleton
public import Idealize.ShloMosaic.Lib.Pointwise

@[expose] public noncomputable section

set_option maxRecDepth 16384

namespace Cert.KernelIdeal.Value
open Cert.KernelIdeal Cert.KernelIdeal.Gen
open Idealize.ShloMosaic Idealize.ShloMosaic.TcCoe Idealize.SL.Sem

/-- The neighbour counts of an image's nodes. -/
def counts (v3 : FVec Ideal S1x196x384 .f32) (v5 : FVec Ideal S384x500 .f32) (v7 : FVec Ideal S1x500 .f32)
    (v11 : FVec Ideal S500x64 .f32) (v13 : FVec Ideal S1x64 .f32) (v19 : FVec Ideal S64x32 .f32) (v21 : FVec Ideal S1x32 .f32)
    (v25 : FVec Ideal S32x9 .f32) (v27 : FVec Ideal S1x9 .f32) : IVec S196x1 32 :=
  k0_pay9 (F := Ideal) (k0_pay8 (F := Ideal) v3 v5 v7 v11 v13 v19 v21 v25 v27) (iota .tc S196x9 32 [1] iota_S196x9_d1_w32)

/-- The distance under which an image's node takes its neighbours. -/
def bounds (n : IVec S196x1 32) (x : FVec Ideal S196x384 .f32) : FVec Ideal S196x1 .f32 :=
  k0_pay16 (F := Ideal) n (k0_pay10 (F := Ideal) x) (k0_pay11 (F := Ideal) x) (k0_pay12 (F := Ideal) x) (k0_pay13 (F := Ideal) x)
    (k0_pay14 (F := Ideal) x) (k0_pay15 (F := Ideal) x)

/-- The two convolutions' result at an image's nodes. -/
def feats (n : IVec S196x1 32) (x : FVec Ideal S196x384 .f32) (w1b w1d : FVec Ideal S384x384 .f32) (b1 : FVec Ideal S1x384 .f32)
    (w2b w2d : FVec Ideal S384x384 .f32) (b2 : FVec Ideal S1x384 .f32) : FVec Ideal S196x384 .bf16 :=
  k0_pay18 (F := Ideal) x n (k0_pay10 (F := Ideal) x) (bounds n x) w1b w1d b1 w2b w2d b2

/-- What the kernel stores of one image. -/
def img (n : IVec S196x1 32) (x : FVec Ideal S196x384 .f32) (w1b w1d : FVec Ideal S384x384 .f32) (b1 : FVec Ideal S1x384 .f32)
    (w2b w2d : FVec Ideal S384x384 .f32) (b2 : FVec Ideal S1x384 .f32) (cio cfc : FVec Ideal S384x768 .bf16)
    (bcomb : FVec Ideal S1x768 .f32) : FVec Ideal S1x196x768 .f32 :=
  k0_pay19 (F := Ideal) (k0_pay17 (F := Ideal) x cio) (feats n x w1b w1d b1 w2b w2d b2) cfc bcomb

/-- One image of a stack of them. -/
def slab {n : ℕ} (X : FVec Ideal ⟨3, ![n, 196, 384]⟩ .f32) (g : Fin n) : FVec Ideal S1x196x384 .f32 :=
  fun z => X (ix3 g (z 1) (z 2))

/-- The first 384 rows of a 768-row matrix. -/
def top (W : FVec Ideal S768x384 .f32) : FVec Ideal S384x384 .f32 := fun z => W (ix2 ⟨(z 0).val, by have := (z 0).isLt; simp at this; omega⟩ (z 1))

/-- The last 384 rows of a 768-row matrix. -/
def bot (W : FVec Ideal S768x384 .f32) : FVec Ideal S384x384 .f32 := fun z => W (ix2 ⟨384 + (z 0).val, by have := (z 0).isLt; simp at this; omega⟩ (z 1))

/-- The first 768 rows of a 1536-row matrix. -/
def topU (W : FVec Ideal S1536x768 .f32) : FVec Ideal S768x768 .f32 := fun z => W (ix2 ⟨(z 0).val, by have := (z 0).isLt; simp at this; omega⟩ (z 1))

/-- The last 768 rows of a 1536-row matrix. -/
def botU (W : FVec Ideal S1536x768 .f32) : FVec Ideal S768x768 .f32 := fun z => W (ix2 ⟨768 + (z 0).val, by have := (z 0).isLt; simp at this; omega⟩ (z 1))

/-- What the kernel leaves of a stack of images: each image's result, from the arrays it is given and the five
    arrays it keeps between the points of its grid. -/
def stack {n : ℕ} (X : FVec Ideal ⟨3, ![n, 196, 384]⟩ .f32) (W1 : FVec Ideal S768x384 .f32) (b1 : FVec Ideal S1x384 .f32)
    (W2 : FVec Ideal S768x384 .f32) (b2 : FVec Ideal S1x384 .f32) (v5 : FVec Ideal S384x500 .f32) (v7 : FVec Ideal S1x500 .f32)
    (v11 : FVec Ideal S500x64 .f32) (v13 : FVec Ideal S1x64 .f32) (v19 : FVec Ideal S64x32 .f32) (v21 : FVec Ideal S1x32 .f32)
    (v25 : FVec Ideal S32x9 .f32) (v27 : FVec Ideal S1x9 .f32) (cio cfc : FVec Ideal S384x768 .bf16) (bcomb : FVec Ideal S1x768 .f32)
    (w1d w2d : FVec Ideal S384x384 .f32) : FVec Ideal ⟨3, ![n, 196, 768]⟩ .f32 :=
  fun y => img (counts (slab X (y 0)) v5 v7 v11 v13 v19 v21 v25 v27) (k0_pay7 (F := Ideal) (slab X (y 0))) (bot W1) w1d b1 (bot W2) w2d b2
    cio cfc bcomb (ix3 0 (y 1) (y 2))

end Cert.KernelIdeal.Value

end
-- ==== Proof.Bridge.lean ====
/- What the kernel's run leaves in its output array: every image's result, as `Value.stack` states it, over the arrays
   its launch is given. The grid's first point also stores five arrays computed from the weights, which the later points read. -/
module

public import proofs.«01_k».proof.Proof.Gen.KernelIdeal.Frame
public import proofs.«01_k».proof.Proof.Image
public import Idealize.ShloMosaic.Lib.Pipeline.ValueKit
public import Idealize.ShloMosaic.Lib.Pipeline.ValueKit.Held
public import Idealize.ShloMosaic.Lib.Pipeline.ReadBack

@[expose] public noncomputable section

set_option maxRecDepth 16384

namespace Cert.KernelIdeal.Value
open Cert.KernelIdeal Cert.KernelIdeal.Gen
open Idealize.ShloMosaic Idealize.ShloMosaic.TcCoe Idealize.SL.Sem
open Idealize.ShloMosaic.Pipeline (Dat)
variable (m : (ℓ : Loc nD τ sig) → Buf (Elt Ideal) ℓ)

/-- The windows' block indices at every point of the grid. -/
theorem idx : ∀ t : Fin cfg0.N, win0_0.index t = ![t.val, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![t.val, 0, 0] :=
  (by decide +kernel : ∀ t : Fin grid0.N, _)

/-- The images as rows of nodes: the launch's first operand. -/
abbrev aX (c : Dev nD) : FVec Ideal S32x196x384 .f32 :=
  transpose S32x196x384 [0, 2, 1] (shapeCast S32x384x196 (m ((c : Thread nD τ).loc main_arg0) : FVec Ideal S32x384x14x14 .f32) Gen.shapeCasts_S32x384x14x14_S32x384x196)
    Gen.transposes_S32x384x196_S32x196x384_0_2_1

/-- The launch's operand 1: argument 1. -/
abbrev aW1 (c : Dev nD) : FVec Ideal S768x384 .f32 := m ((c : Thread nD τ).loc main_arg1)

/-- The launch's operand 2: argument 2 as a row. -/
abbrev ab1 (c : Dev nD) : FVec Ideal S1x384 .f32 := shapeCast S1x384 (m ((c : Thread nD τ).loc main_arg2) : FVec Ideal S384 .f32) Gen.shapeCasts_S384_S1x384

/-- The launch's operand 3: argument 3. -/
abbrev aW2 (c : Dev nD) : FVec Ideal S768x384 .f32 := m ((c : Thread nD τ).loc main_arg3)

/-- The launch's operand 4: argument 4 as a row. -/
abbrev ab2 (c : Dev nD) : FVec Ideal S1x384 .f32 := shapeCast S1x384 (m ((c : Thread nD τ).loc main_arg4) : FVec Ideal S384 .f32) Gen.shapeCasts_S384_S1x384

/-- The launch's operand 5: argument 5. -/
abbrev aWfc (c : Dev nD) : FVec Ideal S384x768 .f32 := m ((c : Thread nD τ).loc main_arg5)

/-- The launch's operand 6: argument 6 as a row. -/
abbrev abfc (c : Dev nD) : FVec Ideal S1x768 .f32 := shapeCast S1x768 (m ((c : Thread nD τ).loc main_arg6) : FVec Ideal S768 .f32) Gen.shapeCasts_S768_S1x768

/-- The launch's operand 7: argument 7. -/
abbrev aWio (c : Dev nD) : FVec Ideal S384x768 .f32 := m ((c : Thread nD τ).loc main_arg7)

/-- The launch's operand 8: argument 8 as a row. -/
abbrev abio (c : Dev nD) : FVec Ideal S1x768 .f32 := shapeCast S1x768 (m ((c : Thread nD τ).loc main_arg8) : FVec Ideal S768 .f32) Gen.shapeCasts_S768_S1x768

/-- The launch's operand 9: argument 9. -/
abbrev aWu (c : Dev nD) : FVec Ideal S1536x768 .f32 := m ((c : Thread nD τ).loc main_arg9)

/-- The launch's operand 10: argument 10 as a row. -/
abbrev abu (c : Dev nD) : FVec Ideal S1x768 .f32 := shapeCast S1x768 (m ((c : Thread nD τ).loc main_arg10) : FVec Ideal S768 .f32) Gen.shapeCasts_S768_S1x768

/-- The launch's operand 11: argument 11. -/
abbrev aP0 (c : Dev nD) : FVec Ideal S384x500 .f32 := m ((c : Thread nD τ).loc main_arg11)

/-- The launch's operand 12: argument 12 as a row. -/
abbrev ap0 (c : Dev nD) : FVec Ideal S1x500 .f32 := shapeCast S1x500 (m ((c : Thread nD τ).loc main_arg12) : FVec Ideal S500 .f32) Gen.shapeCasts_S500_S1x500

/-- The launch's operand 13: argument 13. -/
abbrev aP1 (c : Dev nD) : FVec Ideal S500x64 .f32 := m ((c : Thread nD τ).loc main_arg13)

/-- The launch's operand 14: argument 14 as a row. -/
abbrev ap1 (c : Dev nD) : FVec Ideal S1x64 .f32 := shapeCast S1x64 (m ((c : Thread nD τ).loc main_arg14) : FVec Ideal S64 .f32) Gen.shapeCasts_S64_S1x64

/-- The launch's operand 15: argument 15. -/
abbrev aP2 (c : Dev nD) : FVec Ideal S64x32 .f32 := m ((c : Thread nD τ).loc main_arg15)

/-- The launch's operand 16: argument 16 as a row. -/
abbrev ap2 (c : Dev nD) : FVec Ideal S1x32 .f32 := shapeCast S1x32 (m ((c : Thread nD τ).loc main_arg16) : FVec Ideal S32 .f32) Gen.shapeCasts_S32_S1x32

/-- The launch's operand 17: argument 17. -/
abbrev aP3 (c : Dev nD) : FVec Ideal S32x9 .f32 := m ((c : Thread nD τ).loc main_arg17)

/-- The launch's operand 18: argument 18 as a row. -/
abbrev ap3 (c : Dev nD) : FVec Ideal S1x9 .f32 := shapeCast S1x9 (m ((c : Thread nD τ).loc main_arg18) : FVec Ideal S9 .f32) Gen.shapeCasts_S9_S1x9

/-- The block of operand 1 is the whole operand at every point. -/
theorem blk_W1 (c : Dev nD) (t : Fin cfg0.N) : iblk m c 1 t = aW1 m c := by
  blk_ext! [iblk, V, idx t]

/-- The block of operand 2 is the whole operand at every point. -/
theorem blk_b1 (c : Dev nD) (t : Fin cfg0.N) : iblk m c 2 t = ab1 m c := by
  have e : iblk m c 2 t = V m c main_call0_v2 := by blk_ext! [iblk, idx t]
  rw [e]
  show StableHlo.after hostOps0 (fun b => m (c, b)) _ = _
  simp only [StableHlo.after_cons, StableHlo.after_nil]
  after_results_simp
  rfl

/-- The block of operand 3 is the whole operand at every point. -/
theorem blk_W2 (c : Dev nD) (t : Fin cfg0.N) : iblk m c 3 t = aW2 m c := by
  blk_ext! [iblk, V, idx t]

/-- The block of operand 4 is the whole operand at every point. -/
theorem blk_b2 (c : Dev nD) (t : Fin cfg0.N) : iblk m c 4 t = ab2 m c := by
  have e : iblk m c 4 t = V m c main_call0_v3 := by blk_ext! [iblk, idx t]
  rw [e]
  show StableHlo.after hostOps0 (fun b => m (c, b)) _ = _
  simp only [StableHlo.after_cons, StableHlo.after_nil]
  after_results_simp
  rfl

/-- The block of operand 5 is the whole operand at every point. -/
theorem blk_Wfc (c : Dev nD) (t : Fin cfg0.N) : iblk m c 5 t = aWfc m c := by
  blk_ext! [iblk, V, idx t]

/-- The block of operand 6 is the whole operand at every point. -/
theorem blk_bfc (c : Dev nD) (t : Fin cfg0.N) : iblk m c 6 t = abfc m c := by
  have e : iblk m c 6 t = V m c main_call0_v4 := by blk_ext! [iblk, idx t]
  rw [e]
  show StableHlo.after hostOps0 (fun b => m (c, b)) _ = _
  simp only [StableHlo.after_cons, StableHlo.after_nil]
  after_results_simp
  rfl

/-- The block of operand 7 is the whole operand at every point. -/
theorem blk_Wio (c : Dev nD) (t : Fin cfg0.N) : iblk m c 7 t = aWio m c := by
  blk_ext! [iblk, V, idx t]

/-- The block of operand 8 is the whole operand at every point. -/
theorem blk_bio (c : Dev nD) (t : Fin cfg0.N) : iblk m c 8 t = abio m c := by
  have e : iblk m c 8 t = V m c main_call0_v5 := by blk_ext! [iblk, idx t]
  rw [e]
  show StableHlo.after hostOps0 (fun b => m (c, b)) _ = _
  simp only [StableHlo.after_cons, StableHlo.after_nil]
  after_results_simp
  rfl

/-- The block of operand 9 is the whole operand at every point. -/
theorem blk_Wu (c : Dev nD) (t : Fin cfg0.N) : iblk m c 9 t = aWu m c := by
  blk_ext! [iblk, V, idx t]

/-- The block of operand 10 is the whole operand at every point. -/
theorem blk_bu (c : Dev nD) (t : Fin cfg0.N) : iblk m c 10 t = abu m c := by
  have e : iblk m c 10 t = V m c main_call0_v6 := by blk_ext! [iblk, idx t]
  rw [e]
  show StableHlo.after hostOps0 (fun b => m (c, b)) _ = _
  simp only [StableHlo.after_cons, StableHlo.after_nil]
  after_results_simp
  rfl

/-- The block of operand 11 is the whole operand at every point. -/
theorem blk_P0 (c : Dev nD) (t : Fin cfg0.N) : iblk m c 11 t = aP0 m c := by
  blk_ext! [iblk, V, idx t]

/-- The block of operand 12 is the whole operand at every point. -/
theorem blk_p0 (c : Dev nD) (t : Fin cfg0.N) : iblk m c 12 t = ap0 m c := by
  have e : iblk m c 12 t = V m c main_call0_v7 := by blk_ext! [iblk, idx t]
  rw [e]
  show StableHlo.after hostOps0 (fun b => m (c, b)) _ = _
  simp only [StableHlo.after_cons, StableHlo.after_nil]
  after_results_simp
  rfl

/-- The block of operand 13 is the whole operand at every point. -/
theorem blk_P1 (c : Dev nD) (t : Fin cfg0.N) : iblk m c 13 t = aP1 m c := by
  blk_ext! [iblk, V, idx t]

/-- The block of operand 14 is the whole operand at every point. -/
theorem blk_p1 (c : Dev nD) (t : Fin cfg0.N) : iblk m c 14 t = ap1 m c := by
  have e : iblk m c 14 t = V m c main_call0_v8 := by blk_ext! [iblk, idx t]
  rw [e]
  show StableHlo.after hostOps0 (fun b => m (c, b)) _ = _
  simp only [StableHlo.after_cons, StableHlo.after_nil]
  after_results_simp
  rfl

/-- The block of operand 15 is the whole operand at every point. -/
theorem blk_P2 (c : Dev nD) (t : Fin cfg0.N) : iblk m c 15 t = aP2 m c := by
  blk_ext! [iblk, V, idx t]

/-- The block of operand 16 is the whole operand at every point. -/
theorem blk_p2 (c : Dev nD) (t : Fin cfg0.N) : iblk m c 16 t = ap2 m c := by
  have e : iblk m c 16 t = V m c main_call0_v9 := by blk_ext! [iblk, idx t]
  rw [e]
  show StableHlo.after hostOps0 (fun b => m (c, b)) _ = _
  simp only [StableHlo.after_cons, StableHlo.after_nil]
  after_results_simp
  rfl

/-- The block of operand 17 is the whole operand at every point. -/
theorem blk_P3 (c : Dev nD) (t : Fin cfg0.N) : iblk m c 17 t = aP3 m c := by
  blk_ext! [iblk, V, idx t]

/-- The block of operand 18 is the whole operand at every point. -/
theorem blk_p3 (c : Dev nD) (t : Fin cfg0.N) : iblk m c 18 t = ap3 m c := by
  have e : iblk m c 18 t = V m c main_call0_v10 := by blk_ext! [iblk, idx t]
  rw [e]
  show StableHlo.after hostOps0 (fun b => m (c, b)) _ = _
  simp only [StableHlo.after_cons, StableHlo.after_nil]
  after_results_simp
  rfl

/-- The load of one image of a block is that image. -/
theorem ld_slab (X : FVec Ideal S8x196x384 .f32) (g : Fin 8) (h) :
    View.ld (Val := Elt Ideal) (e' := .f32) X (Rect.unit (s := S8x196x384) ![g.val, 0, 0] ![1, 196, 384] h) = slab (n := 8) X g := by
  funext z
  show X _ = X _
  have := (z 0).isLt
  blk_ext [slab] <;> simp [Rect.idx_unit_val]
/-- The load of the last 384 rows of a matrix is its lower half. -/
theorem ld_bot (W : FVec Ideal S768x384 .f32) (h) :
    View.ld (Val := Elt Ideal) (e' := .f32) W (Rect.unit (s := S768x384) ![384, 0] ![384, 384] h) = bot W := by
  funext z
  show W _ = W _
  blk_ext [bot] <;> simp [Rect.idx_unit_val]

/-- The load of the first 384 rows of a matrix is its upper half. -/
theorem ld_top (W : FVec Ideal S768x384 .f32) (h) :
    View.ld (Val := Elt Ideal) (e' := .f32) W (Rect.unit (s := S768x384) ![0, 0] ![384, 384] h) = top W := by
  funext z
  show W _ = W _
  blk_ext [top] <;> simp [Rect.idx_unit_val]

/-- The load of the first 768 rows of the update matrix is its upper half. -/
theorem ld_topU (W : FVec Ideal S1536x768 .f32) (h) :
    View.ld (Val := Elt Ideal) (e' := .f32) W (Rect.unit (s := S1536x768) ![0, 0] ![768, 768] h) = topU W := by
  funext z
  show W _ = W _
  blk_ext [topU] <;> simp [Rect.idx_unit_val]

/-- The load of the last 768 rows of the update matrix is its lower half. -/
theorem ld_botU (W : FVec Ideal S1536x768 .f32) (h) :
    View.ld (Val := Elt Ideal) (e' := .f32) W (Rect.unit (s := S1536x768) ![768, 0] ![768, 768] h) = botU W := by
  funext z
  show W _ = W _
  blk_ext [botU] <;> simp [Rect.idx_unit_val]

/-- The five arrays the kernel keeps. -/
abbrev Kept : Type := FVec Ideal S384x768 .bf16 × FVec Ideal S384x768 .bf16 × FVec Ideal S1x768 .f32 × FVec Ideal S384x384 .f32 × FVec Ideal S384x384 .f32

/-- The five arrays the first point computes from the weights and keeps. -/
def kept (c : Dev nD) : Kept :=
  (k0_pay2 (F := Ideal) (topU (aWu m c)) (aWio m c), k0_pay3 (F := Ideal) (botU (aWu m c)) (aWfc m c),
   k0_pay4 (F := Ideal) (topU (aWu m c)) (botU (aWu m c)) (abio m c) (abfc m c) (abu m c),
   k0_pay5 (F := Ideal) (top (aW1 m c)) (bot (aW1 m c)), k0_pay6 (F := Ideal) (top (aW2 m c)) (bot (aW2 m c)))

/-- The first point keeps them. -/
theorem kept_A (c : Dev nD) (t : Fin cfg0.N) (h : t.val % 4 = 0) : (outsAt0 m c t.val t.isLt).2 = kept m c := by
  have e1 := blk_W1 m c t
  have e3 := blk_W2 m c t
  have e5 := blk_Wfc m c t
  have e6 := blk_bfc m c t
  have e7 := blk_Wio m c t
  have e8 := blk_bio m c t
  have e9 := blk_Wu m c t
  have e10 := blk_bu m c t
  unfold kept
  rw [← ld_top _ (by decide), ← ld_bot _ (by decide), ← ld_top _ (by decide), ← ld_bot _ (by decide), ← ld_topU _ (by decide), ← ld_botU _ (by decide),
    ← e1, ← e3, ← e5, ← e6, ← e7, ← e8, ← e9, ← e10, outsAt0_A m c t h]
  refine Prod.ext ?_ (Prod.ext ?_ (Prod.ext ?_ (Prod.ext ?_ ?_)))
  all_goals frame_out
  all_goals rfl

/-- The other points leave them. -/
theorem kept_B (c : Dev nD) (t : Fin cfg0.N) (h : ¬ t.val % 4 = 0) :
    (outsAt0 m c t.val t.isLt).2 = (outsAt0 m c (t.val - 1) (Nat.lt_of_le_of_lt (Nat.sub_le _ _) t.isLt)).2 := by
  rw [outsAt0_B m c t h]
  rfl

/-- So every point leaves them. -/
theorem kept_all (c : Dev nD) (t : Fin cfg0.N) : (outsAt0 m c t.val t.isLt).2 = kept m c :=
  Pipeline.eq_of_write_hold (fun n hn => (outsAt0 m c n hn).2) 4 (fun _ => kept m c) (fun t h => kept_A m c t h) (fun t h => kept_B m c t h) t

/-- What one point leaves of its eight images. -/
abbrev blkOf (c : Dev nD) (t : Fin cfg0.N) (s : Kept) : FVec Ideal S8x196x768 .f32 :=
  stack (n := 8) (iblk m c 0 t) (iblk m c 1 t) (iblk m c 2 t) (iblk m c 3 t) (iblk m c 4 t) (iblk m c 11 t) (iblk m c 12 t) (iblk m c 13 t)
    (iblk m c 14 t) (iblk m c 15 t) (iblk m c 16 t) (iblk m c 17 t) (iblk m c 18 t) s.1 s.2.1 s.2.2.1 s.2.2.2.1 s.2.2.2.2

/-- One image's result is its part of what the point leaves. -/
theorem piece (c : Dev nD) (t : Fin cfg0.N) (s : Kept) (g : Fin 8) (x : S1x196x768.Idx) (y : S8x196x768.Idx)
    (v : FVec Ideal S1x196x384 .f32) (w1 w2 : FVec Ideal S384x384 .f32)
    (hv : v = slab (n := 8) (iblk m c 0 t) g) (hw1 : w1 = bot (iblk m c 1 t)) (hw2 : w2 = bot (iblk m c 3 t))
    (h0 : (y 0 : ℕ) = g + (x 0 : ℕ)) (h1 : (y 1 : ℕ) = (x 1 : ℕ)) (h2 : (y 2 : ℕ) = (x 2 : ℕ)) :
    img (counts v (iblk m c 11 t) (iblk m c 12 t) (iblk m c 13 t) (iblk m c 14 t) (iblk m c 15 t) (iblk m c 16 t) (iblk m c 17 t) (iblk m c 18 t))
      (k0_pay7 (F := Ideal) v) w1 s.2.2.2.1 (iblk m c 2 t) w2 s.2.2.2.2 (iblk m c 4 t) s.1 s.2.1 s.2.2.1 x = blkOf m c t s y := by
  have hx : (x 0 : ℕ) < 1 := (x 0).isLt
  obtain rfl : y 0 = g := Fin.ext (by omega)
  have ex : x = ix3 0 (y 1) (y 2) := by blk_ext
  subst hv hw1 hw2
  conv_lhs => rw [ex]
  rfl

set_option maxHeartbeats 1000000 in
/-- The first point leaves its eight images' results. -/
theorem out_A (c : Dev nD) (t : Fin cfg0.N) (h : t.val % 4 = 0) (y : S8x196x768.Idx) :
    (outsAt0 m c t.val t.isLt).1 y = blkOf m c t (outsAt0 m c t.val t.isLt).2 y := by
  rw [outsAt0_A m c t h]
  frame_open
  simp (disch := decide) only [↓ View.readCov_skip, ↓ View.readCov_cons_toLoadRect, ↓ View.readCov_fill]
  frame_out
  canon_tiles x h
  case piece0 =>
    refine Eq.trans ?_ (piece m c t _ 7 x y _ _ _ (ld_slab _ 7 (by decide)) (ld_bot _ (by decide)) (ld_bot _ (by decide)) (by simpa using h0) h1 h2)
    rfl
  case piece1 =>
    refine Eq.trans ?_ (piece m c t _ 6 x y _ _ _ (ld_slab _ 6 (by decide)) (ld_bot _ (by decide)) (ld_bot _ (by decide)) (by simpa using h0) h1 h2)
    rfl
  case piece2 =>
    refine Eq.trans ?_ (piece m c t _ 5 x y _ _ _ (ld_slab _ 5 (by decide)) (ld_bot _ (by decide)) (ld_bot _ (by decide)) (by simpa using h0) h1 h2)
    rfl
  case piece3 =>
    refine Eq.trans ?_ (piece m c t _ 4 x y _ _ _ (ld_slab _ 4 (by decide)) (ld_bot _ (by decide)) (ld_bot _ (by decide)) (by simpa using h0) h1 h2)
    rfl
  case piece4 =>
    refine Eq.trans ?_ (piece m c t _ 3 x y _ _ _ (ld_slab _ 3 (by decide)) (ld_bot _ (by decide)) (ld_bot _ (by decide)) (by simpa using h0) h1 h2)
    rfl
  case piece5 =>
    refine Eq.trans ?_ (piece m c t _ 2 x y _ _ _ (ld_slab _ 2 (by decide)) (ld_bot _ (by decide)) (ld_bot _ (by decide)) (by simpa using h0) h1 h2)
    rfl
  case piece6 =>
    refine Eq.trans ?_ (piece m c t _ 1 x y _ _ _ (ld_slab _ 1 (by decide)) (ld_bot _ (by decide)) (ld_bot _ (by decide)) (by simpa using h0) h1 h2)
    rfl
  case piece7 =>
    refine Eq.trans ?_ (piece m c t _ 0 x y _ _ _ (ld_slab _ 0 (by decide)) (ld_bot _ (by decide)) (ld_bot _ (by decide)) (by simpa using h0) h1 h2)
    rfl

set_option maxHeartbeats 1000000 in
/-- A later point leaves its eight images' results. -/
theorem out_B (c : Dev nD) (t : Fin cfg0.N) (h : ¬ t.val % 4 = 0) (y : S8x196x768.Idx) :
    (outsAt0 m c t.val t.isLt).1 y = blkOf m c t (outsAt0 m c (t.val - 1) (Nat.lt_of_le_of_lt (Nat.sub_le _ _) t.isLt)).2 y := by
  rw [outsAt0_B m c t h]
  frame_out
  simp only [read_unread_whole]
  canon_tiles x h
  case piece0 =>
    refine Eq.trans ?_ (piece m c t _ 7 x y _ _ _ (ld_slab _ 7 (by decide)) (ld_bot _ (by decide)) (ld_bot _ (by decide)) (by simpa using h0) h1 h2)
    rfl
  case piece1 =>
    refine Eq.trans ?_ (piece m c t _ 6 x y _ _ _ (ld_slab _ 6 (by decide)) (ld_bot _ (by decide)) (ld_bot _ (by decide)) (by simpa using h0) h1 h2)
    rfl
  case piece2 =>
    refine Eq.trans ?_ (piece m c t _ 5 x y _ _ _ (ld_slab _ 5 (by decide)) (ld_bot _ (by decide)) (ld_bot _ (by decide)) (by simpa using h0) h1 h2)
    rfl
  case piece3 =>
    refine Eq.trans ?_ (piece m c t _ 4 x y _ _ _ (ld_slab _ 4 (by decide)) (ld_bot _ (by decide)) (ld_bot _ (by decide)) (by simpa using h0) h1 h2)
    rfl
  case piece4 =>
    refine Eq.trans ?_ (piece m c t _ 3 x y _ _ _ (ld_slab _ 3 (by decide)) (ld_bot _ (by decide)) (ld_bot _ (by decide)) (by simpa using h0) h1 h2)
    rfl
  case piece5 =>
    refine Eq.trans ?_ (piece m c t _ 2 x y _ _ _ (ld_slab _ 2 (by decide)) (ld_bot _ (by decide)) (ld_bot _ (by decide)) (by simpa using h0) h1 h2)
    rfl
  case piece6 =>
    refine Eq.trans ?_ (piece m c t _ 1 x y _ _ _ (ld_slab _ 1 (by decide)) (ld_bot _ (by decide)) (ld_bot _ (by decide)) (by simpa using h0) h1 h2)
    rfl
  case piece7 =>
    refine Eq.trans ?_ (piece m c t _ 0 x y _ _ _ (ld_slab _ 0 (by decide)) (ld_bot _ (by decide)) (ld_bot _ (by decide)) (by simpa using h0) h1 h2)
    rfl

/-- The launch's first operand: the images' rows. -/
theorem entry_X (c : Dev nD) : V m c main_call0_v1 = aX m c := by
  show StableHlo.after hostOps0 (fun b => m (c, b)) _ = _
  simp only [StableHlo.after_cons, StableHlo.after_nil]
  after_results_simp
  rfl

/-- The images of a point's block are its eight of all the images. -/
theorem slab_blk (c : Dev nD) (t : Fin cfg0.N) (g : Fin 8) (b : Fin 32) (hb : b.val = 8 * t.val + g.val) :
    slab (n := 8) (iblk m c 0 t) g = slab (n := 32) (aX m c) b := by
  rw [← entry_X]
  funext z
  show (iblk m c 0 t) (ix3 g (z 1) (z 2)) = (V m c main_call0_v1) (ix3 b (z 1) (z 2))
  blk_ext [iblk, idx t]

/-- The kernel's output array after its run: the images' results. -/
theorem final (c : Dev nD) : (dats m 0 c).arrAt 19 (cfgs 0).N
    = stack (n := 32) (aX m c) (aW1 m c) (ab1 m c) (aW2 m c) (ab2 m c) (aP0 m c) (ap0 m c) (aP1 m c) (ap1 m c) (aP2 m c) (ap2 m c) (aP3 m c) (ap3 m c)
      (kept m c).1 (kept m c).2.1 (kept m c).2.2.1 (kept m c).2.2.2.1 (kept m c).2.2.2.2 := by
  refine (dats m 0 c).arrAt_eq_of_covers 19 _ (by decide +kernel) fun t _ y => ?_
  have key : (outsAt0 m c t.val t.isLt).1 y = blkOf m c t (kept m c) y := by
    by_cases h : t.val % 4 = 0
    · rw [out_A m c t h, kept_all]
    · rw [out_B m c t h, ← kept_B m c t h, kept_all]
  blk_simp
  rw [after0_19]
  refine key.trans ?_
  have e0 : ((((cfg0.win 19).blk t).view.emb y) 0 : ℕ) = 8 * t.val + (y 0 : ℕ) := by
    blk_simp [idx t]
    omega
  have e1 : ((((cfg0.win 19).blk t).view.emb y) 1 : ℕ) = (y 1 : ℕ) := by blk_simp [idx t]
  have e2 : ((((cfg0.win 19).blk t).view.emb y) 2 : ℕ) = (y 2 : ℕ) := by blk_simp [idx t]
  generalize ((cfg0.win 19).blk t).view.emb y = j at e0 e1 e2
  show stack (n := 8) _ _ _ _ _ _ _ _ _ _ _ _ _ _ _ _ _ _ y = stack (n := 32) _ _ _ _ _ _ _ _ _ _ _ _ _ _ _ _ _ _ j
  unfold stack
  rw [slab_blk m c t (y 0) (j 0) e0, blk_W1, blk_b1, blk_W2, blk_b2, blk_P0, blk_p0, blk_P1, blk_p1, blk_P2, blk_p2, blk_P3, blk_p3]
  exact congrArg _ (by blk_ext)

end Cert.KernelIdeal.Value

end
-- ==== Proof.KernelRun.lean ====
/- The kernel's run: it returns its stack of images as a batch of feature maps. -/
module

public import proofs.«01_k».proof.Proof.Bridge
public import Idealize.ShloMosaic.Lib.Claim

@[expose] public noncomputable section

set_option maxRecDepth 16384

namespace Cert.KernelIdeal.Value
open Cert.KernelIdeal Cert.KernelIdeal.Gen
open Idealize.ShloMosaic Idealize.ShloMosaic.TcCoe Idealize.SL.Sem
variable (m : (ℓ : Loc nD τ sig) → Buf (Elt Ideal) ℓ)

/-- The stack of images that the launch leaves. -/
def result (c : Dev nD) : FVec Ideal S32x196x768 .f32 :=
  stack (n := 32) (aX m c) (aW1 m c) (ab1 m c) (aW2 m c) (ab2 m c) (aP0 m c) (ap0 m c) (aP1 m c) (ap1 m c) (aP2 m c) (ap2 m c) (aP3 m c) (ap3 m c)
    (kept m c).1 (kept m c).2.1 (kept m c).2.2.1 (kept m c).2.2.2.1 (kept m c).2.2.2.2

/-- What the kernel returns. -/
def output (c : Dev nD) : FVec Ideal S32x768x14x14 .f32 :=
  shapeCast S32x768x14x14 (transpose S32x768x196 [0, 2, 1] (result m c) Gen.transposes_S32x196x768_S32x768x196_0_2_1) Gen.shapeCasts_S32x768x196_S32x768x14x14

/-- The operations after the launch read its result. -/
theorem tail_output (c : Dev nD) : Pipeline.afterTail₀ cfgs (dats m) 0 (V0 m) [hostOps1] c main_v0 = output m c := by
  unfold Pipeline.afterTail₀
  have hw : Pipeline.withArrays (cfgs 0).spec c (V0 m c) (fun w => (dats m 0 c).arrAt w (cfgs 0).N) (Proc.devRef .tc main_call0_v11) = result m c := by
    refine Eq.trans ?_ (final m c)
    exact Pipeline.withArrays_arr (cfgs 0).spec (by decide) c (V0 m c) (fun w => (dats m 0 c).arrAt w (cfgs 0).N) 19
  generalize Pipeline.withArrays (cfgs 0).spec c (V0 m c) (fun w => (dats m 0 c).arrAt w (cfgs 0).N) = W at hw ⊢
  simp only [List.flatten_cons, List.flatten_nil, List.append_nil, StableHlo.after_cons, StableHlo.after_nil]
  after_results_simp
  rw [hw]
  rfl

/-- The kernel runs to `output`, its arguments unchanged. -/
theorem run (g : Dev nD → PrngReg) :
    θ_run (defs (F := Ideal)) (onTc (τ := τ) (main (F := Ideal))) ⟨m, fun _ => 0, g⟩ (fun r => ∀ c : Dev nD,
      r.2.mem ((c : Thread nD τ).loc main_v0) = output m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)) := by
  refine θ_run_mono (θ_run_and (run_main m g) (unchanged m g)) fun r hr c => ⟨?_, hr.2 c⟩
  exact ((hr.1 c).2 _ (by decide)).trans (tail_output m c)

end Cert.KernelIdeal.Value
end
-- ==== Proof.Stages.lean ====
/- The reference, stage by stage: what its host operations compute, as functions of arrays. -/
module

public import proofs.«01_k».proof.ReferenceIdeal
public import proofs.«01_k».proof.Proof.Gen.ReferenceIdeal
public import Idealize.ShloMosaic.PureOps.Ideal

@[expose] public noncomputable section

set_option maxRecDepth 16384

namespace Cert.ReferenceIdeal.Value
open Cert.ReferenceIdeal Cert.ReferenceIdeal.Gen
open Idealize.ShloMosaic

/-- The images as rows of nodes. -/
def nodes (a : FVec Ideal S32x384x14x14 .f32) : FVec Ideal S32x196x384 .f32 :=
  transpose S32x196x384 [0, 2, 1] (shapeCast S32x384x196 a shapeCasts_S32x384x14x14_S32x384x196) transposes_S32x384x196_S32x196x384_0_2_1

/-- The squared lengths of the nodes. -/
def lengths (X : FVec Ideal S32x196x384 .f32) : FVec Ideal S32x196 .f32 :=
  Host.reduceAdd (mulf X X) (constant S_ .f32 0x00000000#32) reducesTo_S32x196x384_S32x196_d2 h_S_

/-- The squared distances between the nodes of each image. -/
def dist (X : FVec Ideal S32x196x384 .f32) : FVec Ideal S32x196x196 .f32 :=
  subf
    (addf
      (broadcastInDim S32x196x196 ![0, 1, 2] bcast_S32x196x1_S32x196x196_0_1_2 (broadcastInDim S32x196x1 ![0, 1] bcast_S32x196_S32x196x1_0_1 (lengths X)))
      (broadcastInDim S32x196x196 ![0, 1, 2] bcast_S32x1x196_S32x196x196_0_1_2 (broadcastInDim S32x1x196 ![0, 2] bcast_S32x196_S32x1x196_0_2 (lengths X))))
    (mulf (broadcastInDim S32x196x196 ![] bcast_S_S32x196x196 (constant S_ .f32 0x40000000#32))
      (Host.dotGeneral dot_S32x196x384_S32x196x384_S32x196x196_2_2_1_1_0_0 none X X))

/-- Of a table of distances, each row's nine nearest columns. -/
def near (D : FVec Ideal S32x196x196 .f32) : IVec S32x196x9 32 :=
  (Host.topK S32x196x9 2 (FloatOps.cmpfTotal .gt) (Host.negf D) sliceFits_S32x196x196_S32x196x9).2

/-- The number of each image's first node among all nodes. -/
def first : IVec S32x1x1 32 :=
  broadcastInDim S32x1x1 ![0] bcast_S32_S32x1x1_0 (muli (iotaInDim S32 32 0) (broadcastInDim S32 ![] bcast_S_S32 (constantI S_ 32 196#32)))

/-- Every edge's source node. -/
def src (I : IVec S32x196x9 32) : IVec S56448 32 :=
  shapeCast S56448 (addi I (broadcastInDim S32x196x9 ![0, 1, 2] bcast_S32x1x1_S32x196x9_0_1_2 first)) shapeCasts_S32x196x9_S56448

/-- Every edge's target node. -/
def dst : IVec S56448 32 :=
  shapeCast S56448 (addi
    (broadcastInDim S32x196x9 ![0, 1, 2] bcast_S1x196x1_S32x196x9_0_1_2 (broadcastInDim S1x196x1 ![1] bcast_S196_S1x196x1_1 (iotaInDim S196 32 0)))
    (broadcastInDim S32x196x9 ![0, 1, 2] bcast_S32x1x1_S32x196x9_0_1_2 first)) shapeCasts_S32x196x9_S56448

/-- All nodes in one array. -/
def flat (X : FVec Ideal S32x196x384 .f32) : FVec Ideal S6272x384 .f32 := shapeCast S6272x384 X shapeCasts_S32x196x384_S6272x384

/-- The predictor's hidden layer. -/
def hidden (X : FVec Ideal S6272x384 .f32) (P0 : FVec Ideal S384x500 .f32) (p0 : FVec Ideal S500 .f32) (P1 : FVec Ideal S500x64 .f32)
    (p1 : FVec Ideal S64 .f32) : FVec Ideal S6272x64 .f32 :=
  maximumf
    (addf
      (Host.dotGeneral dot_S6272x500_S500x64_S6272x64_1_0_0_1_n_n none
        (addf (Host.dotGeneral dot_S6272x384_S384x500_S6272x500_1_0_0_1_n_n none X P0)
          (broadcastInDim S6272x500 ![0, 1] bcast_S1x500_S6272x500_0_1 (broadcastInDim S1x500 ![1] bcast_S500_S1x500_1 p0))) P1)
      (broadcastInDim S6272x64 ![0, 1] bcast_S1x64_S6272x64_0_1 (broadcastInDim S1x64 ![1] bcast_S64_S1x64_1 p1)))
    (broadcastInDim S6272x64 ![] bcast_S_S6272x64 (constant S_ .f32 0x00000000#32))

/-- The predictor's scores of the nine counts, from its hidden layer. -/
def scores (H : FVec Ideal S6272x64 .f32) (P2 : FVec Ideal S64x32 .f32) (p2 : FVec Ideal S32 .f32) (P3 : FVec Ideal S32x9 .f32)
    (p3 : FVec Ideal S9 .f32) : FVec Ideal S6272x9 .f32 :=
  addf
    (Host.dotGeneral dot_S6272x32_S32x9_S6272x9_1_0_0_1_n_n none
      (addf (Host.dotGeneral dot_S6272x64_S64x32_S6272x32_1_0_0_1_n_n none H P2)
        (broadcastInDim S6272x32 ![0, 1] bcast_S1x32_S6272x32_0_1 (broadcastInDim S1x32 ![1] bcast_S32_S1x32_1 p2))) P3)
    (broadcastInDim S6272x9 ![0, 1] bcast_S1x9_S6272x9_0_1 (broadcastInDim S1x9 ![1] bcast_S9_S1x9_1 p3))

/-- Each node's number of neighbours: the position of its greatest score. -/
def number (L : FVec Ideal S6272x9 .f32) : IVec S6272 32 := fun j =>
  (Host.argReduce (F := Ideal) (φ := .f32) reducer_argmax_f32_i32 L (iotaInDim S6272x9 32 1) (constant (F := Ideal) S_ .f32 0xFF800000#32) (constantI S_ 32 0#32)
    reducesTo_S6272x9_S6272_d1 h_S_ j).2

/-- One for the edges that are kept, zero for the others. -/
def mask (n : IVec S6272 32) : FVec Ideal S56448 .f32 :=
  uitofp .f32 (shapeCast S56448
    (cmpi .slt (broadcastInDim S6272x9 ![0, 1] bcast_S1x9_S6272x9_0_1 (broadcastInDim S1x9 ![1] bcast_S9_S1x9_1 (iotaInDim S9 32 0)))
      (broadcastInDim S6272x9 ![0, 1] bcast_S6272x1_S6272x9_0_1 (broadcastInDim S6272x1 ![0] bcast_S6272_S6272x1_0 n)))
    shapeCasts_S6272x9_S56448)

/-- Node numbers as a column, a negative one counted from the end. -/
def wrap (e : IVec S56448 32) : IVec S56448x1 32 :=
  broadcastInDim S56448x1 ![0] bcast_S56448_S56448x1_0
    (select (cmpi .slt e (broadcastInDim S56448 ![] bcast_S_S56448 (constantI S_ 32 0#32)))
      (addi e (broadcastInDim S56448 ![] bcast_S_S56448 (constantI S_ 32 6272#32))) e)

/-- Every edge's row of an array of nodes. -/
def rows (H : FVec Ideal S6272x384 .f32) (e : IVec S56448 32) : FVec Ideal S56448x384 .f32 :=
  Host.gather gather_S6272x384_S56448x1_S56448x384_1_0_n_n_0_1_1384 H (wrap e)

/-- Two arrays of edges side by side. -/
def besideEdges (A B : FVec Ideal S56448x384 .f32) : FVec Ideal S56448x768 .f32 :=
  concatenate S56448x768 1 [⟨S56448x384, A⟩, ⟨S56448x384, B⟩] concatenates_S56448x384_S56448x384_S56448x768_d1

/-- Two arrays of nodes side by side. -/
def besideNodes (A B : FVec Ideal S6272x768 .f32) : FVec Ideal S6272x1536 .f32 :=
  concatenate S6272x1536 1 [⟨S6272x768, A⟩, ⟨S6272x768, B⟩] concatenates_S6272x768_S6272x768_S6272x1536_d1

/-- The concatenation of two arrays of edges, folded. -/
theorem besideEdges_fold (A B : FVec Ideal S56448x384 .f32) (h) :
    concatenate S56448x768 1 [⟨S56448x384, A⟩, ⟨S56448x384, B⟩] h = besideEdges A B := rfl

/-- The concatenation of two arrays of nodes, folded. -/
theorem besideNodes_fold (A B : FVec Ideal S6272x768 .f32) (h) :
    concatenate S6272x1536 1 [⟨S6272x768, A⟩, ⟨S6272x768, B⟩] h = besideNodes A B := rfl

/-- Every edge's target row beside the difference of its source and target rows. -/
def pairs (H : FVec Ideal S6272x384 .f32) (s d : IVec S56448 32) : FVec Ideal S56448x768 .f32 :=
  besideEdges (rows H d) (subf (rows H s) (rows H d))

/-- Every edge's message. -/
def messages (E : FVec Ideal S56448x768 .f32) (W : FVec Ideal S768x384 .f32) (b : FVec Ideal S384 .f32) (k : FVec Ideal S56448 .f32) :
    FVec Ideal S56448x384 .f32 :=
  mulf
    (addf (Host.dotGeneral dot_S56448x768_S768x384_S56448x384_1_0_0_1_n_n none E W)
      (broadcastInDim S56448x384 ![0, 1] bcast_S1x384_S56448x384_0_1 (broadcastInDim S1x384 ![1] bcast_S384_S1x384_1 b)))
    (broadcastInDim S56448x384 ![0, 1] bcast_S56448x1_S56448x384_0_1 (broadcastInDim S56448x1 ![0] bcast_S56448_S56448x1_0 k))

/-- The messages added up at their targets. -/
def gathered (M : FVec Ideal S56448x384 .f32) (d : IVec S56448 32) : FVec Ideal S6272x384 .f32 :=
  Host.scatterAdd scatter_S6272x384_S56448x1_S56448x384_1_0_0_1 (broadcastInDim S6272x384 ![] bcast_S_S6272x384 (constant S_ .f32 0x00000000#32))
    (broadcastInDim S56448x1 ![0] bcast_S56448_S56448x1_0 d) M

/-- One graph convolution. -/
def conv (H : FVec Ideal S6272x384 .f32) (s d : IVec S56448 32) (k : FVec Ideal S56448 .f32) (W : FVec Ideal S768x384 .f32)
    (b : FVec Ideal S384 .f32) : FVec Ideal S6272x384 .f32 :=
  gathered (messages (pairs H s d) W b k) d

/-- The positive part. -/
def relu (H : FVec Ideal S6272x384 .f32) : FVec Ideal S6272x384 .f32 :=
  maximumf H (broadcastInDim S6272x384 ![] bcast_S_S6272x384 (constant S_ .f32 0x00000000#32))

/-- A linear layer from 384 features to 768. -/
def layer (H : FVec Ideal S6272x384 .f32) (W : FVec Ideal S384x768 .f32) (b : FVec Ideal S768 .f32) : FVec Ideal S6272x768 .f32 :=
  addf (Host.dotGeneral dot_S6272x384_S384x768_S6272x768_1_0_0_1_n_n none H W)
    (broadcastInDim S6272x768 ![0, 1] bcast_S1x768_S6272x768_0_1 (broadcastInDim S1x768 ![1] bcast_S768_S1x768_1 b))

/-- The update from a node's own part and its neighbours' part. -/
def update (A B : FVec Ideal S6272x768 .f32) (U : FVec Ideal S1536x768 .f32) (u : FVec Ideal S768 .f32) : FVec Ideal S6272x768 .f32 :=
  maximumf
    (addf
      (Host.dotGeneral dot_S6272x1536_S1536x768_S6272x768_1_0_0_1_n_n none
        (besideNodes A B) U)
      (broadcastInDim S6272x768 ![0, 1] bcast_S1x768_S6272x768_0_1 (broadcastInDim S1x768 ![1] bcast_S768_S1x768_1 u)))
    (broadcastInDim S6272x768 ![] bcast_S_S6272x768 (constant S_ .f32 0x00000000#32))

/-- The nodes' features as images. -/
def images (Y : FVec Ideal S6272x768 .f32) : FVec Ideal S32x768x14x14 .f32 :=
  shapeCast S32x768x14x14
    (transpose S32x768x196 [0, 2, 1] (shapeCast S32x196x768 Y shapeCasts_S6272x768_S32x196x768) transposes_S32x196x768_S32x768x196_0_2_1)
    shapeCasts_S32x768x196_S32x768x14x14

/-- The reference's features of all nodes, from the nodes. -/
def features (X : FVec Ideal S32x196x384 .f32) (W1 : FVec Ideal S768x384 .f32) (b1 : FVec Ideal S384 .f32) (W2 : FVec Ideal S768x384 .f32)
    (b2 : FVec Ideal S384 .f32) (Wfc : FVec Ideal S384x768 .f32) (bfc : FVec Ideal S768 .f32) (Wio : FVec Ideal S384x768 .f32)
    (bio : FVec Ideal S768 .f32) (U : FVec Ideal S1536x768 .f32) (u : FVec Ideal S768 .f32) (P0 : FVec Ideal S384x500 .f32)
    (p0 : FVec Ideal S500 .f32) (P1 : FVec Ideal S500x64 .f32) (p1 : FVec Ideal S64 .f32) (P2 : FVec Ideal S64x32 .f32)
    (p2 : FVec Ideal S32 .f32) (P3 : FVec Ideal S32x9 .f32) (p3 : FVec Ideal S9 .f32) : FVec Ideal S6272x768 .f32 :=
  let s := src (near (dist X))
  let k := mask (number (scores (hidden (flat X) P0 p0 P1 p1) P2 p2 P3 p3))
  update (layer (flat X) Wio bio) (layer (conv (relu (conv (flat X) s dst k W1 b1)) s dst k W2 b2) Wfc bfc) U u

end Cert.ReferenceIdeal.Value
end
-- ==== Proof.RefRun.lean ====
/- The reference's run: its result is the stages composed, and its arguments are left as they were. -/
module

public import proofs.«01_k».proof.Proof.Stages
public import Idealize.ShloMosaic.Lib.Claim
public import Idealize.ShloMosaic.Lib.StableHlo.RunRead

@[expose] public noncomputable section

set_option maxRecDepth 16384

namespace Cert.ReferenceIdeal.Value
open Cert.ReferenceIdeal Cert.ReferenceIdeal.Gen
open Idealize.ShloMosaic Idealize.ShloMosaic.TcCoe Idealize.SL.Sem
variable (m : (ℓ : Loc nD τ sig) → Buf (Elt Ideal) ℓ)

/-- What the reference returns, of the arguments on a device. -/
abbrev returned (c : Dev nD) : FVec Ideal S32x768x14x14 .f32 :=
  images (features (nodes (m ((c : Thread nD τ).loc main_arg0)))
    (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) (m ((c : Thread nD τ).loc main_arg12))
    (m ((c : Thread nD τ).loc main_arg13)) (m ((c : Thread nD τ).loc main_arg14)) (m ((c : Thread nD τ).loc main_arg15)) (m ((c : Thread nD τ).loc main_arg16))
    (m ((c : Thread nD τ).loc main_arg17)) (m ((c : Thread nD τ).loc main_arg18)))

set_option maxRecDepth 100000 in
set_option maxHeartbeats 2000000 in
/-- The reference runs to the stages composed, with its arguments unchanged. -/
theorem run (g : Dev nD → PrngReg) :
    θ_run (defs (F := Ideal)) (onTc (τ := τ) (main (F := Ideal))) ⟨m, fun _ => 0, g⟩ (fun r => ∀ c : Dev nD,
      r.2.mem ((c : Thread nD τ).loc main_v125) = returned m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)) := by
  refine Idealize.ShloMosaic.θ_run_mono (Idealize.ShloMosaic.StableHlo.run_hlo _ _ (by hlo_seq) (by decide) (by decide) (by simp)
      (by intro _ h; (repeat (cases h with | head => rfl | tail _ h => ?_)); exact nomatch h) _ _) ?_
  intro r hr c
  refine ⟨?_, ?_, ?_, ?_, ?_, ?_, ?_, ?_, ?_, ?_, ?_, ?_, ?_, ?_, ?_, ?_, ?_, ?_, ?_, ?_⟩
  · rw [hr c main_v125]
    after_reads_simp [besideEdges_fold, besideNodes_fold]
    simp only [StableHlo.TRef.ofBuf_toBuf]
    simp only [StableHlo.TRef.ofBuf, StableHlo.TRef.toBuf, cast_cast, cast_eq]
    simp only [returned, images, features, update, layer, conv, relu, gathered, messages, pairs, rows, wrap, mask, number, scores, hidden, flat, dst, src, first, near, dist, lengths, nodes]
    rfl
  · rw [hr c main_arg0]
    after_reads_simp
  · rw [hr c main_arg1]
    after_reads_simp
  · rw [hr c main_arg2]
    after_reads_simp
  · rw [hr c main_arg3]
    after_reads_simp
  · rw [hr c main_arg4]
    after_reads_simp
  · rw [hr c main_arg5]
    after_reads_simp
  · rw [hr c main_arg6]
    after_reads_simp
  · rw [hr c main_arg7]
    after_reads_simp
  · rw [hr c main_arg8]
    after_reads_simp
  · rw [hr c main_arg9]
    after_reads_simp
  · rw [hr c main_arg10]
    after_reads_simp
  · rw [hr c main_arg11]
    after_reads_simp
  · rw [hr c main_arg12]
    after_reads_simp
  · rw [hr c main_arg13]
    after_reads_simp
  · rw [hr c main_arg14]
    after_reads_simp
  · rw [hr c main_arg15]
    after_reads_simp
  · rw [hr c main_arg16]
    after_reads_simp
  · rw [hr c main_arg17]
    after_reads_simp
  · rw [hr c main_arg18]
    after_reads_simp

end Cert.ReferenceIdeal.Value
end
-- ==== Proof.Order.lean ====
/- The order in which the greatest of a row come: what `top_k` returns of a three-axis table, by index. -/
module

public import Idealize.ShloMosaic.PureOps.Ideal
public import Idealize.ShloMosaic.PureOps.Ideal.Laws
public import Idealize.ShloMosaic.Lib.SortFacts
public import Idealize.ShloMosaic.Lib.Pointwise

@[expose] public noncomputable section

set_option maxRecDepth 16384

namespace Cert.Order
open Idealize.ShloMosaic

/-- The positions of a row in decreasing order of their values, equal ones in order of position. -/
def order {N : ℕ} (v : Fin N → EReal) : Fin N → Fin N :=
  sortedFrom fun k k' => FloatOps.cmpfTotal (F := Ideal) (φ := .f32) .gt (v k) (v k') == 1#1

/-- Every position occurs in the order. -/
theorem order_onto {N : ℕ} (v : Fin N → EReal) : Function.Surjective (order v) := sortedFrom_surjective _

/-- No position occurs twice. -/
theorem order_inj {N : ℕ} (v : Fin N → EReal) : Function.Injective (order v) := sortedFrom_injective _

/-- The comparison of the order is the order of the extended reals. -/
theorem gt_iff (a b : EReal) : (FloatOps.cmpfTotal (F := Ideal) (φ := .f32) .gt a b == 1#1) = decide (b < a) := by
  rw [Ideal.cmpfTotal_def]
  simp only [Ideal.cmp, CmpDirection.ordered]
  by_cases h : b < a <;> simp [h]

/-- The values decrease along the order. -/
theorem order_anti {N : ℕ} (v : Fin N → EReal) (i j : Fin N) (h : i < j) : v (order v j) ≤ v (order v i) := by
  have := sortedFrom_noInversion
    (fun k k' => FloatOps.cmpfTotal (F := Ideal) (φ := .f32) .gt (v k) (v k') == 1#1)
    (fun k k' => FloatOps.cmpfTotal (F := Ideal) (φ := .f32) .gt (v k) (v k') == 1#1)
    (by intro a b hab; rw [gt_iff] at hab ⊢; simp only [decide_eq_true_eq, decide_eq_false_iff_not, not_lt] at hab ⊢; exact hab.le)
    (fun _ _ hab => hab)
    (by intro a b c h1 h2; rw [gt_iff] at h1 h2 ⊢; simp only [decide_eq_false_iff_not, not_lt] at h1 h2 ⊢; exact h1.trans h2) i j h
  rw [gt_iff] at this
  exact not_lt.mp (of_decide_eq_false this)

/-- A leading part of a table's last axis, by index. -/
theorem slice_at {α : Type} (f : (⟨3, ![32, 196, 196]⟩ : Shape).Idx → α)
    (h : (⟨3, ![32, 196, 196]⟩ : Shape).Slices (fun _ => 0) ⟨3, ![32, 196, 9]⟩) (b : Fin 32) (i : Fin 196) (k : Fin 9) :
    extractStridedSlice ⟨3, ![32, 196, 9]⟩ (fun _ => 0) f h (ix3 b i k) = f (ix3 b i (⟨k.val, by omega⟩ : Fin 196)) := by
  refine congrArg f (funext fun a => ?_)
  match a with
  | ⟨0, _⟩ => exact Fin.ext (Nat.zero_add _)
  | ⟨1, _⟩ => exact Fin.ext (Nat.zero_add _)
  | ⟨2, _⟩ => exact Fin.ext (Nat.zero_add _)

/-- The index of a table with its last coordinate replaced. -/
theorem along_at (b : Fin 32) (i k j : Fin 196) :
    (ix3 b i k : (⟨3, ![32, 196, 196]⟩ : Shape).Idx).along (2 : Fin 3) j = ix3 b i j := by
  funext a; match a with
  | ⟨0, _⟩ => rfl
  | ⟨1, _⟩ => rfl
  | ⟨2, _⟩ => rfl

/-- Two tables sorted along the last axis by the first one's values. -/
theorem sort_at {β : Type} (x : FVec Ideal ⟨3, ![32, 196, 196]⟩ .f32) (y : (⟨3, ![32, 196, 196]⟩ : Shape).Idx → β) (b : Fin 32) (i k : Fin 196) :
    (Host.sort2 ⟨3, ![32, 196, 196]⟩ 2 (fun l r => FloatOps.cmpfTotal (F := Ideal) (φ := .f32) .gt l.1 r.1) x y).1 (ix3 b i k)
        = x (ix3 b i (order (fun j => x (ix3 b i j)) k))
      ∧ (Host.sort2 ⟨3, ![32, 196, 196]⟩ 2 (fun l r => FloatOps.cmpfTotal (F := Ideal) (φ := .f32) .gt l.1 r.1) x y).2 (ix3 b i k)
        = y (ix3 b i (order (fun j => x (ix3 b i j)) k)) := by
  have e : (sortedFrom (fun j j' : Fin 196 => FloatOps.cmpfTotal (F := Ideal) (φ := .f32) .gt
        (x ((ix3 b i k : (⟨3, ![32, 196, 196]⟩ : Shape).Idx).along (2 : Fin 3) j))
        (x ((ix3 b i k : (⟨3, ![32, 196, 196]⟩ : Shape).Idx).along (2 : Fin 3) j')) == 1#1) k) = order (fun j => x (ix3 b i j)) k := by
    unfold order
    simp only [along_at]
  constructor
  · exact congrArg x ((along_at b i k _).trans (congrArg (ix3 b i) e))
  · exact congrArg y ((along_at b i k _).trans (congrArg (ix3 b i) e))

/-- The nine greatest of each row: their values, and their positions. -/
theorem topK_at (x : FVec Ideal ⟨3, ![32, 196, 196]⟩ .f32)
    (h : (⟨3, ![32, 196, 196]⟩ : Shape).Slices (fun _ => 0) ⟨3, ![32, 196, 9]⟩) (b : Fin 32) (i : Fin 196) (k : Fin 9) :
    (Host.topK ⟨3, ![32, 196, 9]⟩ 2 (FloatOps.cmpfTotal (F := Ideal) (φ := .f32) .gt) x h).1 (ix3 b i k)
        = x (ix3 b i (order (fun j => x (ix3 b i j)) ⟨k.val, by omega⟩))
      ∧ (Host.topK ⟨3, ![32, 196, 9]⟩ 2 (FloatOps.cmpfTotal (F := Ideal) (φ := .f32) .gt) x h).2 (ix3 b i k)
        = BitVec.ofNat 32 (order (fun j => x (ix3 b i j)) ⟨k.val, by omega⟩).val := by
  unfold Host.topK
  dsimp only
  rw [slice_at, slice_at, (sort_at x _ b i _).1, (sort_at x _ b i _).2]
  exact ⟨rfl, rfl⟩

end Cert.Order
end
-- ==== Proof.RefEdges.lean ====
/- The reference's edges, by index: the nodes that an edge joins, the rows taken for it, and the sum over a node's edges. -/
module

public import proofs.«01_k».proof.Proof.Stages
public import proofs.«01_k».proof.Proof.Order
public import Idealize.ShloMosaic.Lib.Pointwise
public import Idealize.ShloMosaic.Lib.Routing.OpsPair

@[expose] public noncomputable section

set_option maxRecDepth 16384

namespace Cert.ReferenceIdeal.Value
open Cert.ReferenceIdeal Cert.ReferenceIdeal.Gen
open Idealize.ShloMosaic

/-- An image's node among all nodes. -/
def node (b : Fin 32) (i : Fin 196) : Fin 6272 := ⟨b.val * 196 + i.val, by omega⟩

/-- A node's edge among all edges. -/
def edge (n : Fin 6272) (k : Fin 9) : Fin 56448 := ⟨n.val * 9 + k.val, by omega⟩

/-- Small words add as numbers do. -/
theorem addi_mul (a b : ℕ) :
    IntOp.addi (BitVec.ofNat 32 a) (IntOp.muli (BitVec.ofNat 32 b) 196#32) = BitVec.ofNat 32 (b * 196 + a) := by
  show BitVec.ofNat 32 a + BitVec.ofNat 32 b * BitVec.ofNat 32 196 = _
  rw [← BitVec.ofNat_mul, ← BitVec.ofNat_add, Nat.add_comm]

/-- An edge's source node. -/
theorem src_at (I : IVec S32x196x9 32) (s : Fin 32 → Fin 196 → Fin 9 → Fin 196) (hI : ∀ b i k, I (ix3 b i k) = BitVec.ofNat 32 (s b i k).val)
    (b : Fin 32) (i : Fin 196) (k : Fin 9) : src I (ix1 (edge (node b i) k)) = BitVec.ofNat 32 (node b (s b i k)).val := by
  pointwise [src, first]
  have h1 : ((edge (node b i) k).val / 1764) = b.val := by simp only [edge, node]; omega
  have h2 : ((edge (node b i) k).val / 9 % 196) = i.val := by simp only [edge, node]; omega
  have h3 : ((edge (node b i) k).val % 9) = k.val := by simp only [edge, node]; omega
  simp only [h1, h2, h3, Fin.eta, hI, addi_mul]
  rfl

/-- An edge's target node. -/
theorem dst_at (n : Fin 6272) (k : Fin 9) : dst (ix1 (edge n k)) = BitVec.ofNat 32 n.val := by
  pointwise [dst, first]
  rw [addi_mul]
  congr 1
  simp only [edge]; omega

/-- A node's number is not a negative word. -/
theorem wrap_at (e : IVec S56448 32) (t : Fin 56448) (n : Fin 6272) (h : e (ix1 t) = BitVec.ofNat 32 n.val) :
    wrap e (ix2 t 0) = BitVec.ofNat 32 n.val := by
  pointwise [wrap]
  rw [h]
  refine Routing.wrap_of_lt _ _ ?_
  rw [BitVec.toNat_ofNat]; have := n.isLt
  rw [Nat.mod_eq_of_lt (by omega)]; omega

/-- A small word read as a signed number. -/
theorem toInt_ofNat (n : Fin 6272) : (BitVec.ofNat 32 n.val).toInt = n.val := by
  have := n.isLt
  rw [BitVec.toInt_eq_toNat_of_lt] <;> rw [BitVec.toNat_ofNat, Nat.mod_eq_of_lt (by omega)]
  omega

/-- The row taken for an edge is the row of its node. -/
theorem rows_at (H : FVec Ideal S6272x384 .f32) (e : IVec S56448 32) (t : Fin 56448) (c : Fin 384) (n : Fin 6272)
    (h : e (ix1 t) = BitVec.ofNat 32 n.val) : rows H e (ix2 t c) = H (ix2 n c) := by
  have hs : (gather_S6272x384_S56448x1_S56448x384_1_0_n_n_0_1_1384.siIdx (ix2 t c) ⟨0, by decide⟩) = ix2 t 0 := by
    funext a
    match a with
    | ⟨0, _⟩ => rfl
    | ⟨1, _⟩ => rfl
  refine congrArg H (funext fun a => Fin.ext ?_)
  match a with
  | ⟨0, _⟩ =>
    show min (wrap e (gather_S6272x384_S56448x1_S56448x384_1_0_n_n_0_1_1384.siIdx (ix2 t c) ⟨0, by decide⟩)).toInt.toNat 6271 + 0 + 0 = n.val
    rw [hs, wrap_at e t n h, toInt_ofNat]
    have := n.isLt
    simp only [Int.toNat_natCast]; omega
  | ⟨1, _⟩ =>
    show 0 + 0 + c.val = c.val
    omega

/-- Where an edge's message is added. -/
theorem lands (d : IVec S56448 32) (t : Fin 56448) (c : Fin 384) (n : Fin 6272) (o : Fin 384) (v : Fin 6272)
    (h : d (ix1 t) = BitVec.ofNat 32 v.val) :
    scatter_S6272x384_S56448x1_S56448x384_1_0_0_1.resultIdx? (ix2 t c) (broadcastInDim S56448x1 ![0] bcast_S56448_S56448x1_0 d) = some (ix2 n o)
      ↔ v = n ∧ c = o := by
  have hs : (scatter_S6272x384_S56448x1_S56448x384_1_0_0_1.siIdx (ix2 t c) ⟨0, by decide⟩) = ix2 t 0 := by
    funext a
    match a with
    | ⟨0, _⟩ => rfl
    | ⟨1, _⟩ => rfl
  have hb : (broadcastInDim S56448x1 ![0] bcast_S56448_S56448x1_0 d) (ix2 t 0) = BitVec.ofNat 32 v.val := by
    pointwise
    exact h
  refine (Routing.resultIdx?_ix2 (R := 6272) (C := 384) scatter_S6272x384_S56448x1_S56448x384_1_0_0_1 _ _ n o).trans ?_
  have h0 : scatter_S6272x384_S56448x1_S56448x384_1_0_0_1.start (ix2 t c) (broadcastInDim S56448x1 ![0] bcast_S56448_S56448x1_0 d) 0 = (v.val : Int) := by
    show ((broadcastInDim S56448x1 ![0] bcast_S56448_S56448x1_0 d) (scatter_S6272x384_S56448x1_S56448x384_1_0_0_1.siIdx (ix2 t c) ⟨0, by decide⟩)).toInt = _
    rw [hs, hb, toInt_ofNat]
  have h1 : scatter_S6272x384_S56448x1_S56448x384_1_0_0_1.start (ix2 t c) (broadcastInDim S56448x1 ![0] bcast_S56448_S56448x1_0 d) 1 = 0 := rfl
  have w0 : scatter_S6272x384_S56448x1_S56448x384_1_0_0_1.window (ix2 t c) 0 = 0 := rfl
  have w1 : scatter_S6272x384_S56448x1_S56448x384_1_0_0_1.window (ix2 t c) 1 = c.val := rfl
  rw [h0, h1, w0, w1]
  constructor
  · rintro ⟨ha, hc⟩; exact ⟨Fin.ext (by omega), Fin.ext (by omega)⟩
  · rintro ⟨rfl, rfl⟩; constructor <;> omega

/-- The edges numbered by their target and their place at it. -/
def edges : Fin 6272 × Fin 9 ≃ Fin 56448 where
  toFun p := edge p.1 p.2
  invFun t := (⟨t.val / 9, by omega⟩, ⟨t.val % 9, by omega⟩)
  left_inv := by rintro ⟨n, k⟩; simp only [edge]; ext <;> simp only <;> omega
  right_inv := by intro t; simp only [edge]; ext; simp only; omega

/-- A node's sum of messages is the sum over its nine edges. -/
theorem gathered_at (M : FVec Ideal S56448x384 .f32) (d : IVec S56448 32) (hd : ∀ n k, d (ix1 (edge n k)) = BitVec.ofNat 32 n.val)
    (n : Fin 6272) (o : Fin 384) : gathered M d (ix2 n o) = ∑ k, M (ix2 (edge n k) o) := by
  have hz : (broadcastInDim S6272x384 ![] bcast_S_S6272x384 (constant (F := Ideal) S_ .f32 0x00000000#32)) (ix2 n o) = 0 := by
    pointwise
  show (broadcastInDim S6272x384 ![] bcast_S_S6272x384 (constant (F := Ideal) S_ .f32 0x00000000#32)) (ix2 n o)
    + ∑ j ∈ Finset.univ.filter (fun j => scatter_S6272x384_S56448x1_S56448x384_1_0_0_1.resultIdx? j
        (broadcastInDim S56448x1 ![0] bcast_S56448_S56448x1_0 d) = some (ix2 n o)), M j = _
  rw [hz, zero_add, Finset.sum_filter, sum_idx2]
  rw [← edges.sum_comp, Fintype.sum_prod_type]
  have hx : ∀ (x : Fin 6272) (y : Fin 9), (∑ c : Fin 384, if scatter_S6272x384_S56448x1_S56448x384_1_0_0_1.resultIdx? (ix2 (edges (x, y)) c)
      (broadcastInDim S56448x1 ![0] bcast_S56448_S56448x1_0 d) = some (ix2 n o) then M (ix2 (edges (x, y)) c) else 0)
      = if x = n then M (ix2 (edge x y) o) else 0 := by
    intro x y
    have : ∀ c : Fin 384, (scatter_S6272x384_S56448x1_S56448x384_1_0_0_1.resultIdx? (ix2 (edges (x, y)) c)
      (broadcastInDim S56448x1 ![0] bcast_S56448_S56448x1_0 d) = some (ix2 n o)) ↔ (x = n ∧ c = o) := fun c => lands d _ c n o x (hd x y)
    simp only [this]
    by_cases hxn : x = n
    · simp [hxn, edges]
    · simp [hxn]
  simp only [hx]
  rw [Finset.sum_comm]
  simp

end Cert.ReferenceIdeal.Value
end
-- ==== Proof.Count.lean ====
/- The first greatest of a row of scores, as the kernel finds it (the least position among those of the greatest value)
   and as `argmax` does (a fold that keeps the better of two pairs). -/
module

public import Idealize.ShloMosaic.PureOps.Ideal
public import Idealize.ShloMosaic.PureOps.Ideal.Laws
public import Idealize.ShloMosaic.Lib.Pointwise
public import proofs.«01_k».proof.Proof.Stages

@[expose] public noncomputable section

set_option maxRecDepth 16384

namespace Cert.Count
open Idealize.ShloMosaic

/-- `k` is the first position of the greatest value. -/
structure First (L : Fin 9 → EReal) (k : Fin 9) : Prop where
  le : ∀ j, L j ≤ L k
  lt : ∀ j, j < k → L j < L k

/-- Every row has a first greatest position. -/
theorem exists_first (L : Fin 9 → EReal) : ∃ k, First L k := by
  classical
  obtain ⟨m, -, hm⟩ := Finset.exists_max_image Finset.univ L ⟨0, Finset.mem_univ _⟩
  have hne : (Finset.univ.filter fun k => L k = L m).Nonempty := ⟨m, by simp⟩
  have hk := Finset.min'_mem _ hne
  rw [Finset.mem_filter] at hk
  refine ⟨(Finset.univ.filter fun k => L k = L m).min' hne, ⟨fun j => by rw [hk.2]; exact hm j (Finset.mem_univ _), fun j hj => ?_⟩⟩
  rw [hk.2]
  refine lt_of_le_of_ne (hm j (Finset.mem_univ _)) fun he => ?_
  exact absurd (Finset.min'_le _ j (by simp [he])) (not_le.mpr hj)

/-- The first greatest position. -/
def first (L : Fin 9 → EReal) : Fin 9 := (exists_first L).choose

/-- What it is. -/
theorem first_spec (L : Fin 9 → EReal) : First L (first L) := (exists_first L).choose_spec

/-- The least of a family of words is one of them or the start, and no greater than any. -/
theorem fold_least {ι : Type} [DecidableEq ι] (b : BitVec 32) (f : ι → BitVec 32) (s : Finset ι) :
    (s.fold IntOp.minsi b f = b ∨ ∃ i ∈ s, s.fold IntOp.minsi b f = f i) ∧ (∀ i ∈ s, (s.fold IntOp.minsi b f).toInt ≤ (f i).toInt) := by
  induction s using Finset.induction with
  | empty => simp
  | insert a s ha ih =>
    rw [Finset.fold_insert ha]
    obtain ⟨h1, h2⟩ := ih
    have key : IntOp.minsi (f a) (s.fold IntOp.minsi b f) = f a ∧ (f a).toInt ≤ (s.fold IntOp.minsi b f).toInt
        ∨ IntOp.minsi (f a) (s.fold IntOp.minsi b f) = s.fold IntOp.minsi b f ∧ (s.fold IntOp.minsi b f).toInt ≤ (f a).toInt := by
      unfold IntOp.minsi
      split
      · next h => rw [BitVec.slt_iff_toInt_lt] at h; exact Or.inl ⟨rfl, h.le⟩
      · next h => rw [BitVec.slt_iff_toInt_lt] at h; exact Or.inr ⟨rfl, not_lt.mp h⟩
    rcases key with ⟨e, h⟩ | ⟨e, h⟩ <;> rw [e]
    · refine ⟨Or.inr ⟨a, Finset.mem_insert_self _ _, rfl⟩, fun i hi => ?_⟩
      rcases Finset.mem_insert.mp hi with rfl | hi
      · exact le_rfl
      · exact h.trans (h2 i hi)
    · refine ⟨?_, fun i hi => ?_⟩
      · rcases h1 with h1 | ⟨i, hi, h1⟩
        · exact Or.inl h1
        · exact Or.inr ⟨i, Finset.mem_insert_of_mem hi, h1⟩
      · rcases Finset.mem_insert.mp hi with rfl | hi
        · exact h
        · exact h2 i hi

/-- A position as a signed word. -/
theorem toInt_pos (k : Fin 9) : (BitVec.ofNat 32 k.val).toInt = k.val := by
  have := k.isLt
  rw [BitVec.toInt_eq_toNat_of_lt] <;> rw [BitVec.toNat_ofNat, Nat.mod_eq_of_lt (by omega)]
  omega

/-- The greatest of a row, folded. -/
theorem fold_greatest (L : Fin 9 → EReal) (k : Fin 9) (h : First L k) : Finset.univ.fold max ⊥ L = L k := by
  have : Finset.univ.fold max ⊥ L = Finset.univ.sup L := rfl
  rw [this]
  exact le_antisymm (Finset.sup_le fun j _ => h.le j) (Finset.le_sup (Finset.mem_univ k))

/-- The kernel's way: the least position of the greatest value. -/
theorem least_position (L : Fin 9 → EReal) (k : Fin 9) (h : First L k) :
    Finset.univ.fold IntOp.minsi 2147483647#32 (fun j : Fin 9 => if L j = Finset.univ.fold max ⊥ L then BitVec.ofNat 32 j.val else 9#32)
      = BitVec.ofNat 32 k.val := by
  rw [fold_greatest L k h]
  obtain ⟨h1, h2⟩ := fold_least 2147483647#32 (fun j : Fin 9 => if L j = L k then BitVec.ofNat 32 j.val else 9#32) Finset.univ
  have hk := h2 k (Finset.mem_univ _)
  simp only [if_true, toInt_pos] at hk
  have hlow : ∀ j : Fin 9, ((k.val : ℕ) : Int) ≤ (if L j = L k then BitVec.ofNat 32 j.val else 9#32 : BitVec 32).toInt := by
    intro j
    split
    · next e =>
      rw [toInt_pos]
      by_contra hlt
      exact absurd e (h.lt j (by rw [Fin.lt_def]; omega)).ne
    · have := k.isLt
      have : (9#32 : BitVec 32).toInt = 9 := by decide
      omega
  apply BitVec.eq_of_toInt_eq
  rw [toInt_pos]
  refine le_antisymm hk ?_
  rcases h1 with h1 | ⟨i, -, h1⟩
  · rw [h1]; have := k.isLt
    have : (2147483647#32 : BitVec 32).toInt = 2147483647 := by decide
    omega
  · rw [h1]; exact hlow i

/-- Of two pairs of a value and a position, `a` is at least as good as `b`. -/
def Better (a b : EReal × BitVec 32) : Prop := b.1 < a.1 ∨ (a.1 = b.1 ∧ a.2.toInt ≤ b.2.toInt)

theorem Better.refl (a : EReal × BitVec 32) : Better a a := Or.inr ⟨rfl, le_rfl⟩

theorem Better.trans {a b c : EReal × BitVec 32} (h : Better a b) (h' : Better b c) : Better a c := by
  rcases h with h | ⟨h, g⟩ <;> rcases h' with h' | ⟨h', g'⟩
  · exact Or.inl (h'.trans h)
  · exact Or.inl (h' ▸ h)
  · exact Or.inl (h ▸ h')
  · exact Or.inr ⟨h.trans h', g.trans g'⟩

open Cert.ReferenceIdeal in
/-- One step of `argmax` keeps the better of its two pairs. -/
theorem step (a b : EReal × BitVec 32) :
    (reducer_argmax_f32_i32 (F := Ideal) a b = a ∧ Better a b) ∨ (reducer_argmax_f32_i32 (F := Ideal) a b = b ∧ Better b a) := by
  obtain ⟨x, i⟩ := a
  obtain ⟨y, j⟩ := b
  have hf : reducer_argmax_f32_i32 (F := Ideal) (x, i) (y, j)
      = (if y < x then x else y, if y < x ∨ (x = y ∧ i.toInt < j.toInt) then i else j) := by
    unfold reducer_argmax_f32_i32
    simp only [Ideal.cmpf_def, Ideal.cmp, IntOp.ori, IntOp.andi, IntOp.cmpi, Scalar.select]
    by_cases h1 : y < x <;> by_cases h2 : x = y <;> by_cases h3 : i.toInt < j.toInt <;>
      simp [h1, h2, h3, BitVec.slt_iff_toInt_lt, BitVec.slt]
  rw [hf]
  by_cases h1 : y < x
  · left; simp only [h1, true_or, if_true]; exact ⟨trivial, Or.inl h1⟩
  · by_cases h2 : x = y
    · by_cases h3 : i.toInt < j.toInt
      · left; subst h2; simp only [h1, h3, and_self, or_true, if_true, if_false]; exact ⟨trivial, Or.inr ⟨rfl, h3.le⟩⟩
      · right; subst h2; simp only [h1, h3, and_false, or_false, if_false]; exact ⟨trivial, Or.inr ⟨rfl, not_lt.mp h3⟩⟩
    · right
      simp only [h1, h2, false_and, or_false, if_false]
      exact ⟨trivial, Or.inl (lt_of_le_of_ne (not_lt.mp h1) h2)⟩

open Cert.ReferenceIdeal in
/-- The fold of `argmax` ends at one of its pairs, as good as every one. -/
theorem fold_best (l : List (EReal × BitVec 32)) : ∀ a : EReal × BitVec 32,
    (l.foldl (reducer_argmax_f32_i32 (F := Ideal)) a = a ∨ l.foldl (reducer_argmax_f32_i32 (F := Ideal)) a ∈ l)
      ∧ Better (l.foldl (reducer_argmax_f32_i32 (F := Ideal)) a) a ∧ ∀ p ∈ l, Better (l.foldl (reducer_argmax_f32_i32 (F := Ideal)) a) p := by
  induction l with
  | nil => intro a; exact ⟨Or.inl rfl, Better.refl a, by simp⟩
  | cons b l ih =>
    intro a
    rw [List.foldl_cons]
    obtain ⟨h1, h2, h3⟩ := ih (reducer_argmax_f32_i32 (F := Ideal) a b)
    rcases step a b with ⟨e, hb⟩ | ⟨e, hb⟩ <;> rw [e] at h1 h2 h3 ⊢
    · refine ⟨?_, h2, ?_⟩
      · rcases h1 with h1 | h1
        · exact Or.inl h1
        · exact Or.inr (List.mem_cons_of_mem _ h1)
      · intro p hp
        rcases List.mem_cons.mp hp with rfl | hp
        · exact h2.trans hb
        · exact h3 p hp
    · refine ⟨?_, h2.trans hb, ?_⟩
      · rcases h1 with h1 | h1
        · exact Or.inr (by rw [h1]; exact List.mem_cons_self)
        · exact Or.inr (List.mem_cons_of_mem _ h1)
      · intro p hp
        rcases List.mem_cons.mp hp with rfl | hp
        · exact h2
        · exact h3 p hp

open Cert.ReferenceIdeal in
/-- The reference's way: the fold over a row's pairs, from the least value and position zero, ends at the first greatest position. -/
theorem best_position (L : Fin 9 → EReal) (k : Fin 9) (h : First L k) (l : List (EReal × BitVec 32))
    (hl : ∀ p, p ∈ l ↔ ∃ j : Fin 9, p = (L j, BitVec.ofNat 32 j.val)) :
    (l.foldl (reducer_argmax_f32_i32 (F := Ideal)) (⊥, 0#32)).2 = BitVec.ofNat 32 k.val := by
  obtain ⟨h1, -, h3⟩ := fold_best l (⊥, 0#32)
  have hk := h3 (L k, BitVec.ofNat 32 k.val) ((hl _).2 ⟨k, rfl⟩)
  have hr : ∃ j : Fin 9, (l.foldl (reducer_argmax_f32_i32 (F := Ideal)) (⊥, 0#32)).2 = BitVec.ofNat 32 j.val
      ∧ (l.foldl (reducer_argmax_f32_i32 (F := Ideal)) (⊥, 0#32)).1 ≤ L j := by
    rcases h1 with h1 | h1
    · exact ⟨0, by rw [h1]; rfl, by rw [h1]; exact bot_le⟩
    · obtain ⟨j, hj⟩ := (hl _).1 h1
      exact ⟨j, by rw [hj], by rw [hj]⟩
  obtain ⟨j, hj, hv⟩ := hr
  rw [hj]
  rcases hk with hk | ⟨hk, hi⟩
  · exact absurd ((h.le j).trans_lt hk) (not_lt.mpr hv)
  · rw [hj, toInt_pos] at hi
    simp only [toInt_pos] at hi
    simp only at hk
    have : j = k := by
      by_contra hne
      have hlt : j < k := by
        rw [Fin.lt_def]
        have : j.val ≠ k.val := fun e => hne (Fin.ext e)
        omega
      exact absurd (hk ▸ hv : L k ≤ L j) (not_le.mpr (h.lt j hlt))
    rw [this]

end Cert.Count

namespace Cert.ReferenceIdeal.Value
open Cert.ReferenceIdeal Cert.ReferenceIdeal.Gen
open Idealize.ShloMosaic

/-- The word of the least value. -/
theorem least_word : Ideal.ofBits FTy.f32 0xFF800000#32 = ⊥ := by
  simp [Ideal.ofBits, Ideal.ieee]

/-- A node's number of neighbours is the first greatest position of its scores. -/
theorem number_at (L : FVec Ideal S6272x9 .f32) (n : Fin 6272) :
    number L (ix1 n) = BitVec.ofNat 32 (Count.first fun k => L (ix2 n k)).val := by
  unfold number
  rw [Ideal.argReduce_eq_reduce2, Host.reduce2_eq_foldl_fiber]
  have hi : ((constant (F := Ideal) S_ .f32 0xFF800000#32) (Shape.Idx.first h_S_), (constantI S_ 32 0#32) (Shape.Idx.first h_S_)) = ((⊥ : EReal), 0#32) :=
    Prod.ext least_word rfl
  rw [hi]
  refine Count.best_position (fun k => L (ix2 n k)) _ (Count.first_spec _) _ fun p => ?_
  unfold Host.argReduceFiber
  simp only [List.mem_map, List.mem_filter, List.mem_finRange, true_and, decide_eq_true_eq]
  have hd : ∀ (a : Fin 6272) (k : Fin 9), reducesTo_S6272x9_S6272_d1.drop (ix2 a k) = ix1 a := by
    intro a k; funext z
    match z with
    | ⟨0, _⟩ => rfl
  constructor
  · rintro ⟨t, ht, rfl⟩
    generalize S6272x9.rowMajor.symm t = i at ht ⊢
    obtain ⟨a, k, rfl⟩ : ∃ (a : Fin 6272) (k : Fin 9), i = ix2 a k := ⟨i 0, i 1, eq_ix2 i⟩
    rw [hd] at ht
    have : a = n := congrFun ht 0
    exact ⟨k, by rw [this]; rfl⟩
  · rintro ⟨j, rfl⟩
    refine ⟨S6272x9.rowMajor (ix2 n j), by rw [Equiv.symm_apply_apply, hd], ?_⟩
    rw [Equiv.symm_apply_apply]; rfl

end Cert.ReferenceIdeal.Value
end
-- ==== Proof.Nearest.lean ====
/- The nearest neighbours of a node, read off one row of distances in the kernel's way (the smallest distance, then
   repeatedly the smallest distance above the last one) and in the reference's way (the first entries of a sorted row).
   Plain facts about extended reals and a permutation of positions; no program occurs here. -/
module

public import Mathlib.Data.EReal.Basic
public import Mathlib.Data.Finset.Fold
public import Mathlib.Data.Finset.Lattice.Fold
public import Mathlib.Order.Lattice
public import Mathlib.Data.Fintype.Basic

@[expose] public noncomputable section

namespace Cert.Nearest

variable {N : ℕ}

/-- The smallest entry of a row, as a fold of `min` from `⊤`. -/
def least (d : Fin N → EReal) : EReal := Finset.univ.fold min ⊤ d

/-- The smallest entry of a row among those above `m` (`⊤` if there is none). -/
def next (d : Fin N → EReal) (m : EReal) : EReal := Finset.univ.fold min ⊤ fun j => if m < d j then d j else ⊤

/-- The kernel's chain of distinct smallest entries: the smallest one, then each time the smallest above it. -/
def nth (d : Fin N → EReal) : ℕ → EReal
  | 0 => least d
  | k + 1 => next d (nth d k)

/-- Folding `min` from `⊤` over a row is the row's infimum. -/
theorem fold_min (f : Fin N → EReal) : Finset.univ.fold min ⊤ f = Finset.univ.inf f := rfl

/-- A row whose values along `s` are weakly increasing, and strictly so at its first nine positions. -/
structure Sorted (d : Fin N → EReal) (s : Fin N → Fin N) : Prop where
  /-- every position occurs along `s` -/
  onto : Function.Surjective s
  /-- no position occurs twice along `s` -/
  inj : Function.Injective s
  /-- the values along `s` increase -/
  mono : ∀ a b : Fin N, a < b → d (s a) ≤ d (s b)
  /-- the first nine of them strictly -/
  strict : ∀ a b : Fin N, a.val + 1 = b.val → b.val < 9 → d (s a) < d (s b)

variable {d : Fin N → EReal} {s : Fin N → Fin N}

/-- Along a sorted row, a later position (up to the ninth, or any position after one of the first eight) has a
    strictly greater value. -/
theorem Sorted.lt_of_lt (h : Sorted d s) (a b : Fin N) (hab : a < b) (ha : a.val < 8) : d (s a) < d (s b) := by
  have hN : a.val + 1 < N := lt_of_le_of_lt (Nat.succ_le_of_lt hab) b.isLt
  have h1 := h.strict a ⟨a.val + 1, hN⟩ rfl (by simp only; omega)
  rcases Nat.lt_or_ge (a.val + 1) b.val with hb | hb
  · exact h1.trans_le (h.mono _ _ (Fin.lt_def.2 hb))
  · have : (⟨a.val + 1, hN⟩ : Fin N) = b := Fin.ext (le_antisymm (Nat.succ_le_of_lt hab) hb)
    rwa [this] at h1

/-- Of a sorted row, values above the value at one of the first eight positions are those at later positions. -/
theorem Sorted.lt_iff (h : Sorted d s) (a b : Fin N) (ha : a.val < 8) : d (s a) < d (s b) ↔ a < b := by
  refine ⟨fun hlt => ?_, fun hab => h.lt_of_lt a b hab ha⟩
  by_contra hn
  rcases (not_lt.1 hn).eq_or_lt with e | hb
  · rw [e] at hlt; exact lt_irrefl _ hlt
  · exact absurd hlt (not_lt.2 (h.mono b a hb))

/-- The kernel's `k`-th smallest value is the value at position `k` of the sorted row, for the first eight. -/
theorem Sorted.nth_eq (h : Sorted d s) (k : ℕ) (hk : k < 8) (hN : k < N) : nth d k = d (s ⟨k, hN⟩) := by
  induction k with
  | zero =>
    show Finset.univ.fold min ⊤ d = _
    rw [fold_min]
    refine le_antisymm (Finset.inf_le (Finset.mem_univ _)) (Finset.le_inf fun j _ => ?_)
    obtain ⟨a, rfl⟩ := h.onto j
    rcases Nat.eq_zero_or_pos a.val with e | e
    · rw [show a = ⟨0, hN⟩ from Fin.ext e]
    · exact h.mono _ _ (Fin.lt_def.2 e)
  | succ k ih =>
    have ih := ih (by omega) (by omega)
    show Finset.univ.fold min ⊤ (fun j => if nth d k < d j then d j else ⊤) = _
    rw [fold_min, ih]
    refine le_antisymm ((Finset.inf_le (Finset.mem_univ (s ⟨k + 1, hN⟩))).trans ?_) (Finset.le_inf fun j _ => ?_)
    · rw [if_pos (h.lt_of_lt _ _ (Fin.lt_def.2 (Nat.lt_succ_self k)) (by simp only; omega))]
    · obtain ⟨a, rfl⟩ := h.onto j
      split
      · next hlt =>
        have ha := Fin.lt_def.1 ((h.lt_iff _ _ (by simp only; omega)).1 hlt)
        rcases (Nat.succ_le_of_lt ha).eq_or_lt with e | hb
        · rw [show a = ⟨k + 1, hN⟩ from Fin.ext e.symm]
        · exact h.mono _ _ (Fin.lt_def.2 hb)
      · exact le_top

/-- The value under which the kernel takes the first `n` neighbours: its `n`-th smallest value, `⊥` for none. -/
def bound (d : Fin N → EReal) (n : ℕ) : EReal := if n = 0 then ⊥ else nth d (n - 1)

/-- A position's value is within the bound for `n` neighbours exactly when it is among the first `n` of the sorted row. -/
theorem Sorted.le_bound_iff (h : Sorted d s) (hb : ∀ j, d j ≠ ⊥) (n : ℕ) (hn : n ≤ 8) (hN : 8 < N) (a : Fin N) :
    d (s a) ≤ bound d n ↔ a.val < n := by
  unfold bound
  split
  · next e => subst e; simp [hb]
  · next e =>
    rw [h.nth_eq (n - 1) (by omega) (by omega), ← not_lt, h.lt_iff _ _ (by simp only; omega), Fin.lt_def]
    simp only; omega

end Cert.Nearest

end
-- ==== Proof.Graph.lean ====
/- The network on one image, in scalars: the squared distances, the predictor's scores of a node, and the two forms of a
   graph convolution. -/
module

public import Idealize.ShloMosaic.PureOps.Ideal
public import Idealize.ShloMosaic.PureOps.Ideal.Laws
public import proofs.«01_k».proof.Proof.Nearest

@[expose] public noncomputable section

namespace Cert.Graph
open Idealize.ShloMosaic

/-- The squared distance of two nodes. -/
def sq {C N : ℕ} (x : Fin N → Fin C → EReal) (i j : Fin N) : EReal :=
  ∑ c, x i c * x i c + ∑ c, x j c * x j c - Ideal.ofBits FTy.f32 1073741824#32 * ∑ c, x i c * x j c

/-- The predictor's score of a count at a node with features `y`. -/
def score {a b c d e : ℕ} (y : Fin a → EReal) (P0 : Fin a → Fin b → EReal) (p0 : Fin b → EReal) (P1 : Fin b → Fin c → EReal) (p1 : Fin c → EReal)
    (P2 : Fin c → Fin d → EReal) (p2 : Fin d → EReal) (P3 : Fin d → Fin e → EReal) (p3 : Fin e → EReal) (k : Fin e) : EReal :=
  ∑ r, (∑ q, max (∑ t, (∑ s, y s * P0 s t + p0 t) * P1 t q + p1 q) 0 * P2 q r + p2 r) * P3 r k + p3 k

/-- The kernel's convolution: the number of neighbours times the node's own part, and the neighbours' sum by the weights. -/
def dense {N C O : ℕ} (n : Fin N → EReal) (a : Fin N → Fin N → EReal) (z : Fin N → Fin C → EReal) (Wb Wd : Fin C → Fin O → EReal)
    (b : Fin O → EReal) (i : Fin N) (o : Fin O) : EReal :=
  n i * (∑ c, z i c * Wd c o + b o) + ∑ c, (∑ j, a i j * z j c) * Wb c o

/-- The reference's convolution: the kept edges' messages, added up. -/
def sparse {N C O K : ℕ} (m : Fin N → Fin K → EReal) (s : Fin N → Fin K → Fin N) (z : Fin N → Fin C → EReal) (Wa Wb : Fin C → Fin O → EReal)
    (b : Fin O → EReal) (i : Fin N) (o : Fin O) : EReal :=
  ∑ k, ((∑ c, z i c * Wa c o + ∑ c, (z (s i k) c - z i c) * Wb c o) + b o) * m i k

/-- Two over the extended reals. -/
theorem two : Ideal.ofBits FTy.f32 1073741824#32 = ((2 : ℝ) : EReal) := by
  simp only [Ideal.ofBits, Ideal.ieee]
  simp
  rw [← EReal.coe_mul]
  norm_num

end Cert.Graph
end
-- ==== Proof.RefAt.lean ====
/- What the reference computes, at an index: the scalars of `Graph`. -/
module

public import proofs.«01_k».proof.Proof.RefEdges
public import proofs.«01_k».proof.Proof.Order
public import proofs.«01_k».proof.Proof.Count
public import proofs.«01_k».proof.Proof.Graph
public import Idealize.ShloMosaic.Lib.Pointwise

@[expose] public noncomputable section

set_option maxRecDepth 16384

namespace Cert.ReferenceIdeal.Value
open Cert.ReferenceIdeal Cert.ReferenceIdeal.Gen
open Idealize.ShloMosaic

/-- A sum over twice as many positions, in halves. -/
theorem sum_halves (n m : ℕ) (h : n + n = m) (f : Fin m → EReal) :
    ∑ x, f x = ∑ c : Fin n, f ⟨c.val, by have := c.isLt; omega⟩ + ∑ c : Fin n, f ⟨n + c.val, by have := c.isLt; omega⟩ := by
  subst h
  exact Fin.sum_univ_add f

/-- The table of distances. -/
theorem dist_at (X : FVec Ideal S32x196x384 .f32) (b : Fin 32) (i j : Fin 196) :
    dist X (ix3 b i j) = Graph.sq (fun i c => X (ix3 b i c)) i j := by
  pointwise [dist, lengths]
  rfl

/-- The nodes of an image, in the order of their distance from one. -/
def nearest (X : FVec Ideal S32x196x384 .f32) (b : Fin 32) (i : Fin 196) : Fin 196 → Fin 196 :=
  Order.order fun j => -Graph.sq (fun i c => X (ix3 b i c)) i j

/-- The nine nearest columns of a row. -/
theorem near_at (X : FVec Ideal S32x196x384 .f32) (b : Fin 32) (i : Fin 196) (k : Fin 9) :
    near (dist X) (ix3 b i k) = BitVec.ofNat 32 (nearest X b i ⟨k.val, by have := k.isLt; omega⟩).val := by
  have h := (Order.topK_at (Host.negf (dist X)) sliceFits_S32x196x196_S32x196x9 b i k).2
  have e : (fun j => Host.negf (dist X) (ix3 b i j)) = fun j => -Graph.sq (fun i c => X (ix3 b i c)) i j := by
    funext j
    rw [← dist_at]
    rfl
  rw [e] at h
  exact h

/-- The nodes in one array, by image and number. -/
theorem flat_at (X : FVec Ideal S32x196x384 .f32) (b : Fin 32) (i : Fin 196) (c : Fin 384) : flat X (ix2 (node b i) c) = X (ix3 b i c) := by
  pointwise [flat]
  have hb := b.isLt
  have hi := i.isLt
  congr 1
  refine congrArg₂ (fun a d => ix3 a d c) (Fin.ext ?_) (Fin.ext ?_)
  · show (b.val * 196 + i.val) / 196 = b.val
    omega
  · show (b.val * 196 + i.val) % 196 = i.val
    omega

/-- The predictor's scores of a node. -/
theorem scores_at (H : FVec Ideal S6272x384 .f32) (P0 : FVec Ideal S384x500 .f32) (p0 : FVec Ideal S500 .f32) (P1 : FVec Ideal S500x64 .f32)
    (p1 : FVec Ideal S64 .f32) (P2 : FVec Ideal S64x32 .f32) (p2 : FVec Ideal S32 .f32) (P3 : FVec Ideal S32x9 .f32) (p3 : FVec Ideal S9 .f32)
    (n : Fin 6272) (k : Fin 9) :
    scores (hidden H P0 p0 P1 p1) P2 p2 P3 p3 (ix2 n k)
      = Graph.score (fun c => H (ix2 n c)) (fun s t => P0 (ix2 s t)) (fun t => p0 (ix1 t)) (fun s t => P1 (ix2 s t)) (fun t => p1 (ix1 t))
          (fun s t => P2 (ix2 s t)) (fun t => p2 (ix1 t)) (fun s t => P3 (ix2 s t)) (fun t => p3 (ix1 t)) k := by
  pointwise [scores, hidden]
  rfl

/-- An edge is kept when its position is below its node's number. -/
theorem mask_at (N : IVec S6272 32) (n : Fin 6272) (j : Fin 9) (k : Fin 9) (h : N (ix1 n) = BitVec.ofNat 32 j.val) :
    mask N (ix1 (edge n k)) = if k.val < j.val then 1 else 0 := by
  have hn := n.isLt
  have hk := k.isLt
  have h0 : mask N (ix1 (edge n k)) = FloatOps.uitofp (F := Ideal) .f32 (IntOp.cmpi .slt (BitVec.ofNat 32 k.val) (N (ix1 n))) := by
    pointwise [mask]
    have e1 : (edge n k).val % 9 = k.val := by show (n.val * 9 + k.val) % 9 = k.val; omega
    have e2 : (edge n k).val / 9 = n.val := by show (n.val * 9 + k.val) / 9 = n.val; omega
    simp only [e1, e2]
  rw [h0, h]
  have : (BitVec.ofNat 32 k.val).slt (BitVec.ofNat 32 j.val) = decide (k.val < j.val) := by
    rw [Bool.eq_iff_iff, BitVec.slt_iff_toInt_lt, Count.toInt_pos, Count.toInt_pos]
    simp
  show (((IntOp.cmpi .slt (BitVec.ofNat 32 k.val) (BitVec.ofNat 32 j.val)).toNat : ℝ) : EReal) = _
  simp only [IntOp.cmpi, this]
  by_cases hl : k.val < j.val <;> simp [hl]

/-- A convolution at a node. -/
theorem conv_at (H : FVec Ideal S6272x384 .f32) (s d : IVec S56448 32) (k : FVec Ideal S56448 .f32) (W : FVec Ideal S768x384 .f32)
    (u : FVec Ideal S384 .f32) (b : Fin 32) (σ : Fin 196 → Fin 9 → Fin 196)
    (hs : ∀ i t, s (ix1 (edge (node b i) t)) = BitVec.ofNat 32 (node b (σ i t)).val)
    (hd : ∀ n t, d (ix1 (edge n t)) = BitVec.ofNat 32 n.val) (i : Fin 196) (o : Fin 384) :
    conv H s d k W u (ix2 (node b i) o)
      = Graph.sparse (fun i t => k (ix1 (edge (node b i) t))) σ (fun i c => H (ix2 (node b i) c))
          (fun c o => W (ix2 ⟨c.val, by have := c.isLt; omega⟩ o)) (fun c o => W (ix2 ⟨384 + c.val, by have := c.isLt; omega⟩ o)) (fun o => u (ix1 o)) i o := by
  unfold conv Graph.sparse
  rw [gathered_at _ d hd]
  refine Finset.sum_congr rfl fun t _ => ?_
  have hm : ∀ e, messages (pairs H s d) W u k (ix2 e o) = (∑ x, pairs H s d (ix2 e x) * W (ix2 x o) + u (ix1 o)) * k (ix1 e) := by
    intro e
    generalize pairs H s d = E
    pointwise [messages]
  rw [hm, sum_halves 384 768 rfl]
  have h1 : ∀ c : Fin 384, pairs H s d (ix2 (edge (node b i) t) ⟨c.val, by have := c.isLt; omega⟩) = H (ix2 (node b i) c) := by
    intro c
    have := c.isLt
    rw [← rows_at H d (edge (node b i) t) c (node b i) (hd _ _)]
    unfold pairs
    generalize rows H d = A
    generalize subf (rows H s) A = B
    pointwise [besideEdges]
  have h2 : ∀ c : Fin 384, pairs H s d (ix2 (edge (node b i) t) ⟨384 + c.val, by have := c.isLt; omega⟩)
      = H (ix2 (node b (σ i t)) c) - H (ix2 (node b i) c) := by
    intro c
    have := c.isLt
    rw [← rows_at H d (edge (node b i) t) c (node b i) (hd _ _), ← rows_at H s (edge (node b i) t) c (node b (σ i t)) (hs _ _)]
    unfold pairs
    have e : ∀ x, (rows H s) x - (rows H d) x = subf (rows H s) (rows H d) x := fun _ => rfl
    rw [e]
    generalize subf (rows H s) (rows H d) = B
    generalize rows H d = A
    pointwise [besideEdges]
  simp only [h1, h2]

/-- The update at a node. -/
theorem update_at (A B : FVec Ideal S6272x768 .f32) (U : FVec Ideal S1536x768 .f32) (u : FVec Ideal S768 .f32) (n : Fin 6272) (o : Fin 768) :
    update A B U u (ix2 n o)
      = max (∑ c : Fin 768, A (ix2 n c) * U (ix2 ⟨c.val, by have := c.isLt; omega⟩ o)
          + ∑ c : Fin 768, B (ix2 n c) * U (ix2 ⟨768 + c.val, by have := c.isLt; omega⟩ o) + u (ix1 o)) 0 := by
  have hm : update A B U u (ix2 n o) = max (∑ x, besideNodes A B (ix2 n x) * U (ix2 x o) + u (ix1 o)) 0 := by
    unfold update
    generalize besideNodes A B = E
    pointwise
  rw [hm, sum_halves 768 1536 rfl]
  have h1 : ∀ c : Fin 768, besideNodes A B (ix2 n ⟨c.val, by have := c.isLt; omega⟩) = A (ix2 n c) := by
    intro c
    have := c.isLt
    pointwise [besideNodes]
  have h2 : ∀ c : Fin 768, besideNodes A B (ix2 n ⟨768 + c.val, by have := c.isLt; omega⟩) = B (ix2 n c) := by
    intro c
    have := c.isLt
    pointwise [besideNodes]
  simp only [h1, h2]

/-- A linear layer at a node. -/
theorem layer_at (H : FVec Ideal S6272x384 .f32) (W : FVec Ideal S384x768 .f32) (b : FVec Ideal S768 .f32) (n : Fin 6272) (o : Fin 768) :
    layer H W b (ix2 n o) = ∑ c, H (ix2 n c) * W (ix2 c o) + b (ix1 o) := by
  pointwise [layer]

/-- The positive part at a node. -/
theorem relu_at (H : FVec Ideal S6272x384 .f32) (n : Fin 6272) (c : Fin 384) : relu H (ix2 n c) = max (H (ix2 n c)) 0 := by
  pointwise [relu]

/-- The number of neighbours of an image's nodes. -/
def counts (X : FVec Ideal S32x196x384 .f32) (P0 : FVec Ideal S384x500 .f32) (p0 : FVec Ideal S500 .f32) (P1 : FVec Ideal S500x64 .f32)
    (p1 : FVec Ideal S64 .f32) (P2 : FVec Ideal S64x32 .f32) (p2 : FVec Ideal S32 .f32) (P3 : FVec Ideal S32x9 .f32) (p3 : FVec Ideal S9 .f32)
    (b : Fin 32) (i : Fin 196) : Fin 9 :=
  Count.first (Graph.score (fun c => X (ix3 b i c)) (fun s t => P0 (ix2 s t)) (fun t => p0 (ix1 t)) (fun s t => P1 (ix2 s t)) (fun t => p1 (ix1 t))
    (fun s t => P2 (ix2 s t)) (fun t => p2 (ix1 t)) (fun s t => P3 (ix2 s t)) (fun t => p3 (ix1 t)))

/-- The reference's features of a node. -/
theorem features_at (X : FVec Ideal S32x196x384 .f32) (W1 : FVec Ideal S768x384 .f32) (b1 : FVec Ideal S384 .f32) (W2 : FVec Ideal S768x384 .f32)
    (b2 : FVec Ideal S384 .f32) (Wfc : FVec Ideal S384x768 .f32) (bfc : FVec Ideal S768 .f32) (Wio : FVec Ideal S384x768 .f32)
    (bio : FVec Ideal S768 .f32) (U : FVec Ideal S1536x768 .f32) (u : FVec Ideal S768 .f32) (P0 : FVec Ideal S384x500 .f32)
    (p0 : FVec Ideal S500 .f32) (P1 : FVec Ideal S500x64 .f32) (p1 : FVec Ideal S64 .f32) (P2 : FVec Ideal S64x32 .f32)
    (p2 : FVec Ideal S32 .f32) (P3 : FVec Ideal S32x9 .f32) (p3 : FVec Ideal S9 .f32) (b : Fin 32) (i : Fin 196) (o : Fin 768)
    (x : Fin 196 → Fin 384 → EReal) (hx : x = fun i c => X (ix3 b i c))
    (κ : Fin 196 → Fin 9 → EReal) (hκ : κ = fun i t => if t.val < (counts X P0 p0 P1 p1 P2 p2 P3 p3 b i).val then 1 else 0)
    (σ : Fin 196 → Fin 9 → Fin 196) (hσ : σ = fun i t => nearest X b i ⟨t.val, by have := t.isLt; omega⟩) :
    features X W1 b1 W2 b2 Wfc bfc Wio bio U u P0 p0 P1 p1 P2 p2 P3 p3 (ix2 (node b i) o)
      = max (∑ q : Fin 768, (∑ c, x i c * Wio (ix2 c q) + bio (ix1 q)) * U (ix2 ⟨q.val, by have := q.isLt; omega⟩ o)
          + ∑ q : Fin 768, (∑ c, Graph.sparse κ σ (fun i c => max (Graph.sparse κ σ x
                (fun c o => W1 (ix2 ⟨c.val, by have := c.isLt; omega⟩ o)) (fun c o => W1 (ix2 ⟨384 + c.val, by have := c.isLt; omega⟩ o)) (fun o => b1 (ix1 o)) i c) 0)
                (fun c o => W2 (ix2 ⟨c.val, by have := c.isLt; omega⟩ o)) (fun c o => W2 (ix2 ⟨384 + c.val, by have := c.isLt; omega⟩ o)) (fun o => b2 (ix1 o)) i c
              * Wfc (ix2 c q) + bfc (ix1 q)) * U (ix2 ⟨768 + q.val, by have := q.isLt; omega⟩ o) + u (ix1 o)) 0 := by
  have hs : ∀ i t, src (near (dist X)) (ix1 (edge (node b i) t)) = BitVec.ofNat 32 (node b (σ i t)).val := fun i t => by
    rw [hσ]
    exact src_at _ (fun b i k => nearest X b i ⟨k.val, by have := k.isLt; omega⟩) (fun b i k => near_at X b i k) b i t
  have hk : (fun i t => mask (number (scores (hidden (flat X) P0 p0 P1 p1) P2 p2 P3 p3)) (ix1 (edge (node b i) t))) = κ := by
    rw [hκ]; funext i t
    refine mask_at _ _ (counts X P0 p0 P1 p1 P2 p2 P3 p3 b i) t ?_
    rw [number_at]
    simp only [scores_at, flat_at]
    rfl
  have hf : (fun i c => flat X (ix2 (node b i) c)) = x := by
    rw [hx]; funext i c; exact flat_at X b i c
  unfold features
  generalize src (near (dist X)) = s at hs ⊢
  generalize mask (number (scores (hidden (flat X) P0 p0 P1 p1) P2 p2 P3 p3)) = k at hk ⊢
  generalize flat X = H at hf ⊢
  have hr : (fun i c => relu (conv H s dst k W1 b1) (ix2 (node b i) c)) = fun i c => max (Graph.sparse κ σ x
      (fun c o => W1 (ix2 ⟨c.val, by have := c.isLt; omega⟩ o)) (fun c o => W1 (ix2 ⟨384 + c.val, by have := c.isLt; omega⟩ o)) (fun o => b1 (ix1 o)) i c) 0 := by
    funext i c
    rw [relu_at, conv_at H s dst k W1 b1 b σ hs dst_at, hk, hf]
  have hxi : ∀ c, H (ix2 (node b i) c) = x i c := fun c => by rw [← hf]
  rw [update_at]
  simp only [layer_at, hxi, conv_at _ s dst k W2 b2 b σ hs dst_at, hk, hr]

end Cert.ReferenceIdeal.Value
end
-- ==== Proof.Posed.lean ====
/- What the precondition says: the arrays it names are real-valued, and the nine nearest nodes of each node are at distinct distances. -/
module

public import proofs.«01_k».proof.Pre_well_posed
public import proofs.«01_k».proof.Proof.Gen.Pre_well_posed
public import proofs.«01_k».proof.Proof.RefAt
public import Idealize.ShloMosaic.Lib.Pointwise

@[expose] public noncomputable section

set_option maxRecDepth 16384

namespace Cert.Posed
open Idealize.ShloMosaic
open Cert.ReferenceIdeal.Value (nodes dist nearest)

/-- The word of the greatest value. -/
theorem greatest_word : Ideal.ofBits FTy.f32 0x7F800000#32 = ⊤ := by
  simp [Ideal.ofBits, Ideal.ieee]

/-- A value whose absolute value is below the greatest is a real. -/
theorem real_of_lt (a : EReal) (h : FloatOps.cmpf (F := Ideal) (φ := .f32) .olt (FloatOps.absf (F := Ideal) (φ := .f32) a) (Ideal.ofBits FTy.f32 0x7F800000#32) = 1#1) :
    ∃ r : ℝ, a = r := by
  rw [greatest_word] at h
  induction a with
  | coe r => exact ⟨r, rfl⟩
  | top =>
    have e : FloatOps.absf (F := Ideal) (φ := .f32) (⊤ : EReal) = ⊤ := by
      show max (⊤ : EReal) (-⊤) = ⊤
      simp
    rw [e] at h
    simp [Ideal.cmpf_def, Ideal.cmp] at h
  | bot =>
    have e : FloatOps.absf (F := Ideal) (φ := .f32) (⊥ : EReal) = ⊤ := by
      show max (⊥ : EReal) (-⊥) = ⊤
      simp
    rw [e] at h
    simp [Ideal.cmpf_def, Ideal.cmp] at h

/-- Of an array whose entries are all below the greatest in absolute value, each entry is a real. -/
theorem real_of_all {s : Shape} (a : FVec Ideal s .f32) (h0 : (⟨0, ![]⟩ : Shape).BroadcastsInDim s (![] : Fin 0 → Fin s.rank))
    (h : cmpf .olt (Host.absf a) (broadcastInDim s ![] h0 (constant (F := Ideal) ⟨0, ![]⟩ .f32 0x7F800000#32)) = fun _ => 1#1) (y : s.Idx) :
    ∃ r : ℝ, a y = (r : EReal) :=
  real_of_lt (a y) (congrFun h y)

/-- The strict decrease of the nearest nodes' negated distances. -/
theorem decrease (X : FVec Ideal ReferenceIdeal.S32x196x384 .f32) (h1 h2 h3)
    (h : cmpf .olt
        (extractStridedSlice ⟨3, ![32, 196, 8]⟩ ![0, 0, 1] (Host.topK ⟨3, ![32, 196, 9]⟩ 2 (FloatOps.cmpfTotal (F := Ideal) (φ := .f32) .gt) (Host.negf (dist X)) h1).1 h2)
        (extractStridedSlice ⟨3, ![32, 196, 8]⟩ ![0, 0, 0] (Host.topK ⟨3, ![32, 196, 9]⟩ 2 (FloatOps.cmpfTotal (F := Ideal) (φ := .f32) .gt) (Host.negf (dist X)) h1).1 h3)
      = fun _ => 1#1) (b : Fin 32) (i : Fin 196) (p q : Fin 196) (hpq : p.val + 1 = q.val) (hq : q.val < 9) :
    Graph.sq (fun i c => X (ix3 b i c)) i (nearest X b i p) < Graph.sq (fun i c => X (ix3 b i c)) i (nearest X b i q) := by
  have e : (fun j => Host.negf (dist X) (ix3 b i j)) = fun j => -Graph.sq (fun i c => X (ix3 b i c)) i j := by
    funext j
    rw [← ReferenceIdeal.Value.dist_at]
    rfl
  have hV : ∀ k : Fin 9, (Host.topK ⟨3, ![32, 196, 9]⟩ 2 (FloatOps.cmpfTotal (F := Ideal) (φ := .f32) .gt) (Host.negf (dist X)) h1).1 (ix3 b i k)
      = -Graph.sq (fun i c => X (ix3 b i c)) i (nearest X b i ⟨k.val, by have := k.isLt; omega⟩) := by
    intro k
    have h := (Order.topK_at (Host.negf (dist X)) h1 b i k).1
    rw [e] at h
    rw [h, show Host.negf (dist X) (ix3 b i _) = _ from congrFun e _]
    rfl
  have hc := congrFun h (ix3 b i ⟨p.val, by omega⟩)
  generalize (Host.topK ⟨3, ![32, 196, 9]⟩ 2 (FloatOps.cmpfTotal (F := Ideal) (φ := .f32) .gt) (Host.negf (dist X)) h1).1 = V at hV hc
  have hr : cmpf .olt (extractStridedSlice ⟨3, ![32, 196, 8]⟩ ![0, 0, 1] V h2) (extractStridedSlice ⟨3, ![32, 196, 8]⟩ ![0, 0, 0] V h3) (ix3 b i ⟨p.val, by omega⟩)
      = FloatOps.cmpf (F := Ideal) (φ := .f32) .olt (V (ix3 b i ⟨q.val, hq⟩)) (V (ix3 b i ⟨p.val, by omega⟩)) := by
    have e1 : (⟨q.val, hq⟩ : Fin 9) = ⟨1 + p.val, by omega⟩ := Fin.ext (by simp only; omega)
    have e2 : (⟨p.val, by omega⟩ : Fin 9) = ⟨0 + p.val, by omega⟩ := Fin.ext (by simp only; omega)
    show FloatOps.cmpf (F := Ideal) (φ := .f32) .olt (V _) (V _) = _
    congr 2
    · funext z
      match z with
      | ⟨0, _⟩ => exact Fin.ext (Nat.zero_add _)
      | ⟨1, _⟩ => exact Fin.ext (Nat.zero_add _)
      | ⟨2, _⟩ => exact Fin.ext (by show 1 + p.val = q.val; omega)
    · funext z
      match z with
      | ⟨0, _⟩ => exact Fin.ext (Nat.zero_add _)
      | ⟨1, _⟩ => exact Fin.ext (Nat.zero_add _)
      | ⟨2, _⟩ => exact Fin.ext (Nat.zero_add _)
  rw [hr, hV, hV] at hc
  simp only [Ideal.cmpf_def, Ideal.cmp] at hc
  have hlt : -Graph.sq (fun i c => X (ix3 b i c)) i (nearest X b i q) < -Graph.sq (fun i c => X (ix3 b i c)) i (nearest X b i p) := by
    by_contra hn
    simp [hn] at hc
  exact EReal.neg_lt_neg_iff.mp hlt

/-- The nearest nodes' order sorts a node's distances, strictly at the first nine. -/
theorem sorted (X : FVec Ideal ReferenceIdeal.S32x196x384 .f32) (b : Fin 32) (i : Fin 196)
    (h : ∀ p q : Fin 196, p.val + 1 = q.val → q.val < 9 →
      Graph.sq (fun i c => X (ix3 b i c)) i (nearest X b i p) < Graph.sq (fun i c => X (ix3 b i c)) i (nearest X b i q)) :
    Nearest.Sorted (Graph.sq (fun i c => X (ix3 b i c)) i) (nearest X b i) where
  onto := Order.order_onto _
  inj := Order.order_inj _
  mono := fun p q hpq => EReal.neg_le_neg_iff.mp (Order.order_anti (fun j => -Graph.sq (fun i c => X (ix3 b i c)) i j) p q hpq)
  strict := h

end Cert.Posed
end
-- ==== Proof.ImageAt.lean ====
/- What the kernel computes of one image, at an index: the scalars of `Graph`. -/
module

public import proofs.«01_k».proof.Proof.Image
public import proofs.«01_k».proof.Proof.Count
public import proofs.«01_k».proof.Proof.Graph
public import Idealize.ShloMosaic.Lib.Pointwise

@[expose] public noncomputable section

set_option maxRecDepth 16384

namespace Cert.KernelIdeal.Value
open Cert.KernelIdeal Cert.KernelIdeal.Gen
open Idealize.ShloMosaic

/-- The word of the greatest value. -/
theorem greatest_word : Ideal.ofBits FTy.f32 2139095040#32 = ⊤ := by
  simp [Ideal.ofBits, Ideal.ieee]

/-- The word of the least value. -/
theorem least_word : Ideal.ofBits FTy.f32 4286578688#32 = ⊥ := by
  simp [Ideal.ofBits, Ideal.ieee]

/-- The named constant is the greatest value. -/
theorem far : (Named.named (F := Ideal) (φ := .f32) κ "far" 2137108966#32 : EReal) = ⊤ := rfl

/-- The kernel's scores. -/
theorem scores_at (v3 : FVec Ideal S1x196x384 .f32) (v5 : FVec Ideal S384x500 .f32) (v7 : FVec Ideal S1x500 .f32)
    (v11 : FVec Ideal S500x64 .f32) (v13 : FVec Ideal S1x64 .f32) (v19 : FVec Ideal S64x32 .f32) (v21 : FVec Ideal S1x32 .f32)
    (v25 : FVec Ideal S32x9 .f32) (v27 : FVec Ideal S1x9 .f32) (i : Fin 196) (k : Fin 9) :
    k0_pay8 (F := Ideal) v3 v5 v7 v11 v13 v19 v21 v25 v27 (ix2 i k)
      = Graph.score (fun c => v3 (ix3 0 i c)) (fun s t => v5 (ix2 s t)) (fun t => v7 (ix2 0 t)) (fun s t => v11 (ix2 s t)) (fun t => v13 (ix2 0 t))
          (fun s t => v19 (ix2 s t)) (fun t => v21 (ix2 0 t)) (fun s t => v25 (ix2 s t)) (fun t => v27 (ix2 0 t)) k := by
  pointwise [k0_pay8, k0_pay7]
  rfl

/-- The kernel's number of neighbours of a node is the first greatest position of its scores. -/
theorem counts_at (v3 : FVec Ideal S1x196x384 .f32) (v5 : FVec Ideal S384x500 .f32) (v7 : FVec Ideal S1x500 .f32)
    (v11 : FVec Ideal S500x64 .f32) (v13 : FVec Ideal S1x64 .f32) (v19 : FVec Ideal S64x32 .f32) (v21 : FVec Ideal S1x32 .f32)
    (v25 : FVec Ideal S32x9 .f32) (v27 : FVec Ideal S1x9 .f32) (i : Fin 196) :
    counts v3 v5 v7 v11 v13 v19 v21 v25 v27 (ix2 i 0)
      = BitVec.ofNat 32 (Count.first (Graph.score (fun c => v3 (ix3 0 i c)) (fun s t => v5 (ix2 s t)) (fun t => v7 (ix2 0 t)) (fun s t => v11 (ix2 s t))
          (fun t => v13 (ix2 0 t)) (fun s t => v19 (ix2 s t)) (fun t => v21 (ix2 0 t)) (fun s t => v25 (ix2 s t)) (fun t => v27 (ix2 0 t)))).val := by
  unfold counts
  have h := fun k => scores_at v3 v5 v7 v11 v13 v19 v21 v25 v27 i k
  generalize k0_pay8 (F := Ideal) v3 v5 v7 v11 v13 v19 v21 v25 v27 = L at h ⊢
  pointwise [k0_pay9]
  simp only [h, least_word]
  exact Count.least_position _ _ (Count.first_spec _)

/-- The kernel's table of distances. -/
theorem dist_at (x : FVec Ideal S196x384 .f32) (i j : Fin 196) :
    k0_pay10 (F := Ideal) x (ix2 i j) = Graph.sq (fun i c => x (ix2 i c)) i j := by
  pointwise [k0_pay10]
  rfl

/-- The smallest distance of a row. -/
theorem nth0_at (x : FVec Ideal S196x384 .f32) (i : Fin 196) :
    k0_pay11 (F := Ideal) x (ix2 i 0) = Nearest.nth (Graph.sq (fun i c => x (ix2 i c)) i) 0 := by
  pointwise [k0_pay11]
  simp only [dist_at, greatest_word]
  rfl

/-- The second smallest distance of a row. -/
theorem nth1_at (x : FVec Ideal S196x384 .f32) (i : Fin 196) :
    k0_pay12 (F := Ideal) x (ix2 i 0) = Nearest.nth (Graph.sq (fun i c => x (ix2 i c)) i) 1 := by
  pointwise [k0_pay12]
  simp only [dist_at, greatest_word, nth0_at, far]
  rfl

/-- The third smallest distance of a row. -/
theorem nth2_at (x : FVec Ideal S196x384 .f32) (i : Fin 196) :
    k0_pay13 (F := Ideal) x (ix2 i 0) = Nearest.nth (Graph.sq (fun i c => x (ix2 i c)) i) 2 := by
  pointwise [k0_pay13]
  simp only [dist_at, greatest_word, nth1_at, far]
  rfl

/-- The fourth smallest distance of a row. -/
theorem nth3_at (x : FVec Ideal S196x384 .f32) (i : Fin 196) :
    k0_pay14 (F := Ideal) x (ix2 i 0) = Nearest.nth (Graph.sq (fun i c => x (ix2 i c)) i) 3 := by
  pointwise [k0_pay14]
  simp only [dist_at, greatest_word, nth2_at, far]
  rfl

/-- The fifth smallest distance of a row. -/
theorem nth4_at (x : FVec Ideal S196x384 .f32) (i : Fin 196) :
    k0_pay15 (F := Ideal) x (ix2 i 0) = Nearest.nth (Graph.sq (fun i c => x (ix2 i c)) i) 4 := by
  pointwise [k0_pay15]
  simp only [dist_at, greatest_word, nth3_at, far]
  rfl

/-- A choice by equality of small words. -/
theorem select_word (k : Fin 9) (j : ℕ) (hj : j < 9) (a b : EReal) :
    Scalar.select (IntOp.cmpi .eq (BitVec.ofNat 32 k.val) (BitVec.ofNat 32 j)) a b = if k.val = j then a else b := by
  have hk := k.isLt
  have : BitVec.ofNat 32 k.val = BitVec.ofNat 32 j ↔ k.val = j := by
    constructor
    · intro h
      have := congrArg BitVec.toNat h
      rw [BitVec.toNat_ofNat, BitVec.toNat_ofNat, Nat.mod_eq_of_lt (by omega), Nat.mod_eq_of_lt (by omega)] at this
      exact this
    · rintro h; rw [h]
  by_cases h : k.val = j
  · simp [Scalar.select, IntOp.cmpi, h]
  · have h' := this.not.mpr h
    simp only [Scalar.select, IntOp.cmpi, beq_eq_false_iff_ne.mpr h', h, if_false]
    rfl

/-- The kernel's bound of a node with `k` neighbours. -/
theorem bounds_at (n : IVec S196x1 32) (x : FVec Ideal S196x384 .f32) (i : Fin 196) (k : Fin 9) (h : n (ix2 i 0) = BitVec.ofNat 32 k.val) :
    bounds n x (ix2 i 0) = Nearest.bound (Graph.sq (fun i c => x (ix2 i c)) i) k.val := by
  unfold bounds
  have h0 := nth0_at x i
  have h1 := nth1_at x i
  have h2 := nth2_at x i
  have h3 := nth3_at x i
  have h4 := nth4_at x i
  have hd := dist_at x i
  generalize k0_pay10 (F := Ideal) x = D at *
  generalize k0_pay11 (F := Ideal) x = a at *
  generalize k0_pay12 (F := Ideal) x = b at *
  generalize k0_pay13 (F := Ideal) x = c at *
  generalize k0_pay14 (F := Ideal) x = d at *
  generalize k0_pay15 (F := Ideal) x = e at *
  generalize Graph.sq (fun i c => x (ix2 i c)) i = q at *
  pointwise [k0_pay16]
  simp only [h, h0, h1, h2, h3, h4, hd, greatest_word, far]
  have h5 : Finset.univ.fold min ⊤ (fun j => if Nearest.nth q 4 < q j then q j else ⊤) = Nearest.nth q 5 := rfl
  have h6 : Finset.univ.fold min ⊤ (fun j => if Nearest.nth q 5 < q j then q j else ⊤) = Nearest.nth q 6 := rfl
  have h7 : Finset.univ.fold min ⊤ (fun j => if Nearest.nth q 6 < q j then q j else ⊤) = Nearest.nth q 7 := rfl
  simp only [h5, h6, h7]
  rw [select_word k 8 (by omega), select_word k 7 (by omega), select_word k 6 (by omega), select_word k 5 (by omega), select_word k 4 (by omega),
    select_word k 3 (by omega), select_word k 2 (by omega), select_word k 1 (by omega)]
  unfold Nearest.bound
  match k with
  | ⟨0, _⟩ => simp
  | ⟨1, _⟩ => simp
  | ⟨2, _⟩ => simp
  | ⟨3, _⟩ => simp
  | ⟨4, _⟩ => simp
  | ⟨5, _⟩ => simp
  | ⟨6, _⟩ => simp
  | ⟨7, _⟩ => simp
  | ⟨8, _⟩ => simp

/-- A small word as a value. -/
theorem word_value (k : Fin 9) : (FloatOps.sitofp (F := Ideal) FTy.f32 (BitVec.ofNat 32 k.val) : EReal) = ((k.val : ℝ) : EReal) := by
  show (((BitVec.ofNat 32 k.val).toInt : ℝ) : EReal) = _
  rw [Count.toInt_pos]
  norm_num

/-- One for the columns of a row within the bound, zero for the others. -/
def within {N : ℕ} (d : Fin N → Fin N → EReal) (n : Fin N → Fin 9) (i j : Fin N) : EReal :=
  if d i j ≤ Nearest.bound (d i) (n i).val then 1 else 0

/-- The kernel's two convolutions of an image. -/
theorem feats_at (n : IVec S196x1 32) (x : FVec Ideal S196x384 .f32) (w1b w1d : FVec Ideal S384x384 .f32) (b1 : FVec Ideal S1x384 .f32)
    (w2b w2d : FVec Ideal S384x384 .f32) (b2 : FVec Ideal S1x384 .f32) (k : Fin 196 → Fin 9) (h : ∀ i, n (ix2 i 0) = BitVec.ofNat 32 (k i).val)
    (i : Fin 196) (o : Fin 384) :
    feats n x w1b w1d b1 w2b w2d b2 (ix2 i o)
      = Graph.dense (fun i => (((k i).val : ℝ) : EReal)) (within (Graph.sq (fun i c => x (ix2 i c))) k)
          (fun i c => max (Graph.dense (fun i => (((k i).val : ℝ) : EReal)) (within (Graph.sq (fun i c => x (ix2 i c))) k) (fun i c => x (ix2 i c))
            (fun c o => w1b (ix2 c o)) (fun c o => w1d (ix2 c o)) (fun o => b1 (ix2 0 o)) i c) 0)
          (fun c o => w2b (ix2 c o)) (fun c o => w2d (ix2 c o)) (fun o => b2 (ix2 0 o)) i o := by
  unfold feats
  have hb := fun i => bounds_at n x i (k i) (h i)
  have hd := fun i j => dist_at x i j
  generalize bounds n x = t at hb ⊢
  generalize k0_pay10 (F := Ideal) x = D at hd ⊢
  pointwise [k0_pay18]
  simp only [h, hb, hd, word_value]
  rfl

/-- The neighbour counts of a stack's image `b`. -/
def count {n : ℕ} (X : FVec Ideal ⟨3, ![n, 196, 384]⟩ .f32) (v5 : FVec Ideal S384x500 .f32) (v7 : FVec Ideal S1x500 .f32)
    (v11 : FVec Ideal S500x64 .f32) (v13 : FVec Ideal S1x64 .f32) (v19 : FVec Ideal S64x32 .f32) (v21 : FVec Ideal S1x32 .f32)
    (v25 : FVec Ideal S32x9 .f32) (v27 : FVec Ideal S1x9 .f32) (b : Fin n) (i : Fin 196) : Fin 9 :=
  Count.first (Graph.score (fun c => X (ix3 b i c)) (fun s t => v5 (ix2 s t)) (fun t => v7 (ix2 0 t)) (fun s t => v11 (ix2 s t))
    (fun t => v13 (ix2 0 t)) (fun s t => v19 (ix2 s t)) (fun t => v21 (ix2 0 t)) (fun s t => v25 (ix2 s t)) (fun t => v27 (ix2 0 t)))

/-- The kernel's result at a node of a stack of images. -/
theorem stack_at {n : ℕ} (X : FVec Ideal ⟨3, ![n, 196, 384]⟩ .f32) (W1 : FVec Ideal S768x384 .f32) (b1 : FVec Ideal S1x384 .f32)
    (W2 : FVec Ideal S768x384 .f32) (b2 : FVec Ideal S1x384 .f32) (v5 : FVec Ideal S384x500 .f32) (v7 : FVec Ideal S1x500 .f32)
    (v11 : FVec Ideal S500x64 .f32) (v13 : FVec Ideal S1x64 .f32) (v19 : FVec Ideal S64x32 .f32) (v21 : FVec Ideal S1x32 .f32)
    (v25 : FVec Ideal S32x9 .f32) (v27 : FVec Ideal S1x9 .f32) (cio cfc : FVec Ideal S384x768 .bf16) (bcomb : FVec Ideal S1x768 .f32)
    (w1d w2d : FVec Ideal S384x384 .f32) (b : Fin n) (i : Fin 196) (o : Fin 768)
    (k : Fin 196 → Fin 9) (hk : k = count X v5 v7 v11 v13 v19 v21 v25 v27 b) (x : Fin 196 → Fin 384 → EReal) (hx : x = fun i c => X (ix3 b i c)) :
    stack X W1 b1 W2 b2 v5 v7 v11 v13 v19 v21 v25 v27 cio cfc bcomb w1d w2d (ix3 b i o)
      = max (∑ c, x i c * cio (ix2 c o)
          + ∑ c, Graph.dense (fun i => (((k i).val : ℝ) : EReal)) (within (Graph.sq x) k)
              (fun i c => max (Graph.dense (fun i => (((k i).val : ℝ) : EReal)) (within (Graph.sq x) k) x
                (fun c o => bot W1 (ix2 c o)) (fun c o => w1d (ix2 c o)) (fun o => b1 (ix2 0 o)) i c) 0)
              (fun c o => bot W2 (ix2 c o)) (fun c o => w2d (ix2 c o)) (fun o => b2 (ix2 0 o)) i c * cfc (ix2 c o)
          + bcomb (ix2 0 o)) 0 := by
  have h0 : stack X W1 b1 W2 b2 v5 v7 v11 v13 v19 v21 v25 v27 cio cfc bcomb w1d w2d (ix3 b i o)
      = img (counts (slab X b) v5 v7 v11 v13 v19 v21 v25 v27) (k0_pay7 (F := Ideal) (slab X b)) (bot W1) w1d b1 (bot W2) w2d b2
          cio cfc bcomb (ix3 0 i o) := rfl
  rw [h0]
  have hn : ∀ i, counts (slab X b) v5 v7 v11 v13 v19 v21 v25 v27 (ix2 i 0) = BitVec.ofNat 32 (k i).val := fun i => by
    rw [hk]; exact counts_at (slab X b) v5 v7 v11 v13 v19 v21 v25 v27 i
  have hx7 : (fun i c => k0_pay7 (F := Ideal) (slab X b) (ix2 i c)) = x := by
    rw [hx]; funext i c; pointwise [k0_pay7]; rfl
  generalize counts (slab X b) v5 v7 v11 v13 v19 v21 v25 v27 = N at hn ⊢
  generalize k0_pay7 (F := Ideal) (slab X b) = y at hx7 ⊢
  unfold img
  have hf := fun c => feats_at N y (bot W1) w1d b1 (bot W2) w2d b2 k hn i c
  rw [hx7] at hf
  generalize feats N y (bot W1) w1d b1 (bot W2) w2d b2 = f at hf ⊢
  have hxi : ∀ c, y (ix2 i c) = x i c := fun c => by rw [← hx7]
  pointwise [k0_pay19, k0_pay17]
  simp only [hf, hxi]

end Cert.KernelIdeal.Value
end
-- ==== Proof.Conv.lean ====
/- The algebra of one edge convolution and of the update, over the real numbers: the sum over a node's edges of a linear
   map of (the node, the neighbour minus the node) against the kernel's form of it. No program occurs here. -/
module

public import Mathlib.Data.EReal.Operations
public import Mathlib.Algebra.BigOperators.Ring.Finset
public import Mathlib.Algebra.BigOperators.Fin
public import Mathlib.Tactic.Ring
public import Mathlib.Tactic.NormNum

@[expose] public section

namespace Cert.Conv

/-- The coercion of the reals to the extended reals takes a finite sum to the sum. -/
theorem coe_sum {ι : Type*} (t : Finset ι) (f : ι → ℝ) : ((∑ i ∈ t, f i : ℝ) : EReal) = ∑ i ∈ t, (f i : EReal) := by
  classical
  induction t using Finset.induction with
  | empty => simp
  | insert a t ha ih => rw [Finset.sum_insert ha, Finset.sum_insert ha, EReal.coe_add, ih]

/-- The edge form of a convolution at a node is its dense form: summed over the node's edges `e` with masks `m e`,
    `m e * (x · Wa + (y e - x) · Wb + b)` is `(∑ m) * (x · (Wa - Wb) + b) + (∑ a j * z j) · Wb`, where `a` weighs the
    nodes `z` as the masks weigh the neighbours `y`. -/
theorem edge_real {E C J : Type*} [Fintype E] [Fintype C] [Fintype J] (m : E → ℝ) (x : C → ℝ) (y : E → C → ℝ)
    (Wa Wb : C → ℝ) (b : ℝ) (a : J → ℝ) (z : J → C → ℝ) (hz : ∀ c, ∑ j, a j * z j c = ∑ e, m e * y e c) :
    ∑ e, ((∑ c, x c * Wa c + ∑ c, (y e c - x c) * Wb c) + b) * m e
      = (∑ e, m e) * (∑ c, x c * (Wa c - Wb c) + b) + ∑ c, (∑ j, a j * z j c) * Wb c := by
  have h1 : ∀ e, ((∑ c, x c * Wa c + ∑ c, (y e c - x c) * Wb c) + b) * m e
      = m e * (∑ c, x c * (Wa c - Wb c) + b) + ∑ c, m e * y e c * Wb c := by
    intro e
    simp only [sub_mul, mul_sub, Finset.sum_sub_distrib, mul_assoc, ← Finset.mul_sum]
    ring
  simp only [h1, Finset.sum_add_distrib, ← Finset.sum_mul, hz]
  congr 1
  rw [Finset.sum_comm]
  exact Finset.sum_congr rfl fun c _ => (Finset.sum_mul _ _ _).symm

/-- Two linear maps after one another are their product's map: `∑ o, (∑ c, x c * A c o) * B o = ∑ c, x c * ∑ o, A c o * B o`. -/
theorem compose_real {C O : Type*} [Fintype C] [Fintype O] (x : C → ℝ) (A : C → O → ℝ) (B : O → ℝ) :
    ∑ o, (∑ c, x c * A c o) * B o = ∑ c, x c * ∑ o, A c o * B o := by
  simp only [Finset.sum_mul, Finset.mul_sum, mul_assoc]
  exact Finset.sum_comm

/-- A real factor distributes over the sum of a real and any extended real. -/
theorem coe_add_mul (r w : ℝ) (b : EReal) : ((r : EReal) + b) * (w : EReal) = (r : EReal) * w + b * w := by
  induction b with
  | coe b => norm_cast; ring
  | top =>
    rw [EReal.coe_add_top]
    rcases lt_trichotomy w 0 with h | h | h
    · rw [EReal.top_mul_coe_of_neg h, ← EReal.coe_mul, EReal.add_bot]
    · subst h; simp
    · rw [EReal.top_mul_coe_of_pos h, ← EReal.coe_mul, EReal.coe_add_top]
  | bot =>
    rw [EReal.add_bot]
    rcases lt_trichotomy w 0 with h | h | h
    · rw [EReal.bot_mul_coe_of_neg h, ← EReal.coe_mul, EReal.coe_add_top]
    · subst h; simp
    · rw [EReal.bot_mul_coe_of_pos h, ← EReal.coe_mul, EReal.add_bot]

/-- The update's two halves, each a linear map with a bias and then a matrix, are the products' maps plus the biases'
    images: the node's points `x` and its features `h` and all matrices are real, the biases are any extended reals. -/
theorem update {C O : Type*} [Fintype C] [Fintype O] (x h : C → ℝ) (Wx Wh : C → O → ℝ) (bx bh : O → EReal)
    (Ux Uh : O → ℝ) (bu : EReal) :
    (∑ o, ((∑ c, (x c : EReal) * (Wx c o : EReal)) + bx o) * (Ux o : EReal)
        + ∑ o, ((∑ c, (h c : EReal) * (Wh c o : EReal)) + bh o) * (Uh o : EReal)) + bu
      = (∑ c, (x c : EReal) * ∑ o, (Wx c o : EReal) * (Ux o : EReal)
          + ∑ c, (h c : EReal) * ∑ o, (Wh c o : EReal) * (Uh o : EReal))
        + ((∑ o, bx o * (Ux o : EReal) + ∑ o, bh o * (Uh o : EReal)) + bu) := by
  have key : ∀ (x : C → ℝ) (W : C → O → ℝ) (b : O → EReal) (U : O → ℝ),
      ∑ o, ((∑ c, (x c : EReal) * (W c o : EReal)) + b o) * (U o : EReal)
        = ∑ c, (x c : EReal) * ∑ o, (W c o : EReal) * (U o : EReal) + ∑ o, b o * (U o : EReal) := by
    intro x W b U
    have e : ∀ o, ((∑ c, (x c : EReal) * (W c o : EReal)) + b o) * (U o : EReal)
        = (((∑ c, x c * W c o) * U o : ℝ) : EReal) + b o * (U o : EReal) := by
      intro o
      rw [EReal.coe_mul, ← coe_add_mul, coe_sum]
      simp only [EReal.coe_mul]
    simp only [e, Finset.sum_add_distrib]
    rw [← coe_sum, compose_real, coe_sum]
    simp only [EReal.coe_mul, coe_sum]
  rw [key, key]
  abel_nf

end Cert.Conv

end
-- ==== Proof.Same.lean ====
/- The two forms of a graph convolution agree on real values, when the neighbours are the nearest ones. -/
module

public import proofs.«01_k».proof.Proof.Graph
public import proofs.«01_k».proof.Proof.Conv

@[expose] public noncomputable section

namespace Cert.Graph
open Idealize.ShloMosaic

/-- A sum that only the first nine positions of a row contribute to. -/
theorem sum_first {N : ℕ} (hN : 9 ≤ N) (n : Fin 9) (f : Fin N → ℝ) :
    ∑ p : Fin N, (if p.val < n.val then (1 : ℝ) else 0) * f p
      = ∑ t : Fin 9, (if t.val < n.val then (1 : ℝ) else 0) * f ⟨t.val, lt_of_lt_of_le t.isLt hN⟩ := by
  obtain ⟨r, rfl⟩ := Nat.exists_eq_add_of_le hN
  rw [Fin.sum_univ_add]
  have h : ∑ i : Fin r, (if (Fin.natAdd 9 i).val < n.val then (1 : ℝ) else 0) * f (Fin.natAdd 9 i) = 0 := by
    refine Finset.sum_eq_zero fun i _ => ?_
    have h1 := n.isLt
    have h2 : (Fin.natAdd 9 i).val = 9 + i.val := rfl
    rw [if_neg (by omega), zero_mul]
  rw [h, add_zero]
  rfl

/-- The number of the positions below `n`. -/
theorem sum_mask (n : Fin 9) : ∑ t : Fin 9, (if t.val < n.val then (1 : ℝ) else 0) = (n.val : ℝ) := by
  have h : ∀ n : Fin 9, ((Finset.univ.filter fun t : Fin 9 => t.val < n.val).card) = n.val := by decide
  rw [Finset.sum_boole, h]

/-- A sum over the neighbours within the bound is the sum over the first of the sorted row. -/
theorem sum_within {N : ℕ} (hN : 9 ≤ N) (d : Fin N → EReal) (s : Fin N → Fin N) (hs : Nearest.Sorted d s) (hd : ∀ j, d j ≠ ⊥) (n : Fin 9)
    (f : Fin N → ℝ) :
    ∑ j, (if d j ≤ Nearest.bound d n.val then (1 : ℝ) else 0) * f j
      = ∑ t : Fin 9, (if t.val < n.val then (1 : ℝ) else 0) * f (s ⟨t.val, lt_of_lt_of_le t.isLt hN⟩) := by
  rw [← sum_first hN n fun p => f (s p)]
  rw [← (Equiv.ofBijective s ⟨hs.inj, hs.onto⟩).sum_comp]
  refine Finset.sum_congr rfl fun p _ => ?_
  have h1 := n.isLt
  have h := hs.le_bound_iff hd n.val (by omega) (by omega) p
  show (if d (s p) ≤ Nearest.bound d n.val then (1 : ℝ) else 0) * f (s p) = _
  simp only [h]

/-- A choice of one or zero, among the reals or the extended reals. -/
theorem coe_choice (p : Prop) [Decidable p] : (if p then (1 : EReal) else 0) = ((if p then (1 : ℝ) else 0 : ℝ) : EReal) := by
  by_cases h : p <;> simp [h]

/-- On real values the kernel's convolution is a real, and the reference's is the same. -/
theorem dense_sparse {N C O : ℕ} (hN : 9 ≤ N) (d : Fin N → Fin N → EReal) (s : Fin N → Fin N → Fin N)
    (hs : ∀ i, Nearest.Sorted (d i) (s i)) (hd : ∀ i j, d i j ≠ ⊥) (n : Fin N → Fin 9) (z : Fin N → Fin C → ℝ) (Wa Wb : Fin C → Fin O → ℝ)
    (b : Fin O → ℝ) : ∃ r : Fin N → Fin O → ℝ,
      (∀ i o, dense (fun i => (((n i).val : ℝ) : EReal)) (fun i j => if d i j ≤ Nearest.bound (d i) (n i).val then 1 else 0) (fun i c => (z i c : EReal))
        (fun c o => (Wb c o : EReal)) (fun c o => (Wa c o : EReal) - (Wb c o : EReal)) (fun o => (b o : EReal)) i o = (r i o : EReal))
      ∧ ∀ i o, sparse (fun i (t : Fin 9) => if t.val < (n i).val then 1 else 0) (fun i t => s i ⟨t.val, lt_of_lt_of_le t.isLt hN⟩)
        (fun i c => (z i c : EReal)) (fun c o => (Wa c o : EReal)) (fun c o => (Wb c o : EReal)) (fun o => (b o : EReal)) i o = (r i o : EReal) := by
  refine ⟨fun i o => ∑ t : Fin 9, ((∑ c, z i c * Wa c o + ∑ c, (z (s i ⟨t.val, lt_of_lt_of_le t.isLt hN⟩) c - z i c) * Wb c o) + b o)
    * (if t.val < (n i).val then (1 : ℝ) else 0), fun i o => ?_, fun i o => ?_⟩
  · beta_reduce
    rw [Conv.edge_real (fun t : Fin 9 => if t.val < (n i).val then (1 : ℝ) else 0) (z i) (fun t => z (s i ⟨t.val, lt_of_lt_of_le t.isLt hN⟩))
      (fun c => Wa c o) (fun c => Wb c o) (b o) (fun j => if d i j ≤ Nearest.bound (d i) (n i).val then (1 : ℝ) else 0) z
      (fun c => sum_within hN (d i) (s i) (hs i) (hd i) (n i) fun j => z j c), sum_mask]
    unfold dense
    simp only [coe_choice, ← EReal.coe_mul, ← EReal.coe_sub, ← EReal.coe_add, ← Conv.coe_sum]
  · unfold sparse
    simp only [coe_choice, ← EReal.coe_mul, ← EReal.coe_sub, ← EReal.coe_add, ← Conv.coe_sum]

/-- The distance of two nodes of real values is a real. -/
theorem sq_real {C N : ℕ} (x : Fin N → Fin C → ℝ) (i j : Fin N) : ∃ r : ℝ, sq (fun i c => (x i c : EReal)) i j = (r : EReal) := by
  refine ⟨∑ c, x i c * x i c + ∑ c, x j c * x j c - 2 * ∑ c, x i c * x j c, ?_⟩
  unfold sq
  rw [two]
  simp only [← EReal.coe_mul, ← Conv.coe_sum, ← EReal.coe_add, ← EReal.coe_sub]

/-- The positive part of a real. -/
theorem coe_relu (r : ℝ) : max (r : EReal) 0 = ((max r 0 : ℝ) : EReal) := by
  rw [EReal.coe_strictMono.monotone.map_max]; rfl

/-- The two networks agree on an image's node: two convolutions, and the update with its weights either composed beforehand or not. -/
theorem network {N C O : ℕ} (hN : 9 ≤ N) (x : Fin N → Fin C → EReal) (hx : ∀ i c, ∃ r : ℝ, x i c = r)
    (s : Fin N → Fin N → Fin N) (hs : ∀ i, Nearest.Sorted (sq x i) (s i)) (n : Fin N → Fin 9)
    (A1 B1 A2 B2 : Fin C → Fin C → EReal) (b1 b2 : Fin C → EReal) (Wx Wh : Fin C → Fin O → EReal) (bx bh : Fin O → EReal)
    (Ux Uh : Fin O → Fin O → EReal) (bu : Fin O → EReal)
    (hA1 : ∀ c o, ∃ r : ℝ, A1 c o = r) (hB1 : ∀ c o, ∃ r : ℝ, B1 c o = r) (hA2 : ∀ c o, ∃ r : ℝ, A2 c o = r) (hB2 : ∀ c o, ∃ r : ℝ, B2 c o = r)
    (hb1 : ∀ o, ∃ r : ℝ, b1 o = r) (hb2 : ∀ o, ∃ r : ℝ, b2 o = r) (hWx : ∀ c o, ∃ r : ℝ, Wx c o = r) (hWh : ∀ c o, ∃ r : ℝ, Wh c o = r)
    (hUx : ∀ c o, ∃ r : ℝ, Ux c o = r) (hUh : ∀ c o, ∃ r : ℝ, Uh c o = r) (i : Fin N) (o : Fin O)
    (a : Fin N → Fin N → EReal) (ha : a = fun i j => if sq x i j ≤ Nearest.bound (sq x i) (n i).val then 1 else 0)
    (m : Fin N → Fin 9 → EReal) (hm : m = fun i t => if t.val < (n i).val then 1 else 0)
    (σ : Fin N → Fin 9 → Fin N) (hσ : σ = fun i t => s i ⟨t.val, lt_of_lt_of_le t.isLt hN⟩) :
    max (∑ c, x i c * (∑ q, Wx c q * Ux q o)
        + ∑ c, dense (fun i => (((n i).val : ℝ) : EReal)) a
            (fun i c => max (dense (fun i => (((n i).val : ℝ) : EReal)) a x B1 (fun c o => A1 c o - B1 c o) b1 i c) 0)
            B2 (fun c o => A2 c o - B2 c o) b2 i c * (∑ q, Wh c q * Uh q o)
        + ((∑ q, bx q * Ux q o + ∑ q, bh q * Uh q o) + bu o)) 0
      = max (∑ q, (∑ c, x i c * Wx c q + bx q) * Ux q o
          + ∑ q, (∑ c, sparse m σ (fun i c => max (sparse m σ x A1 B1 b1 i c) 0) A2 B2 b2 i c * Wh c q + bh q) * Uh q o + bu o) 0 := by
  choose x' hx using hx
  choose A1' hA1 using hA1
  choose B1' hB1 using hB1
  choose A2' hA2 using hA2
  choose B2' hB2 using hB2
  choose b1' hb1 using hb1
  choose b2' hb2 using hb2
  choose Wx' hWx using hWx
  choose Wh' hWh using hWh
  choose Ux' hUx using hUx
  choose Uh' hUh using hUh
  obtain rfl : x = fun i c => (x' i c : EReal) := funext fun i => funext fun c => hx i c
  obtain rfl : A1 = fun i c => (A1' i c : EReal) := funext fun i => funext fun c => hA1 i c
  obtain rfl : B1 = fun i c => (B1' i c : EReal) := funext fun i => funext fun c => hB1 i c
  obtain rfl : A2 = fun i c => (A2' i c : EReal) := funext fun i => funext fun c => hA2 i c
  obtain rfl : B2 = fun i c => (B2' i c : EReal) := funext fun i => funext fun c => hB2 i c
  obtain rfl : b1 = fun c => (b1' c : EReal) := funext fun c => hb1 c
  obtain rfl : b2 = fun c => (b2' c : EReal) := funext fun c => hb2 c
  obtain rfl : Wx = fun i c => (Wx' i c : EReal) := funext fun i => funext fun c => hWx i c
  obtain rfl : Wh = fun i c => (Wh' i c : EReal) := funext fun i => funext fun c => hWh i c
  obtain rfl : Ux = fun i c => (Ux' i c : EReal) := funext fun i => funext fun c => hUx i c
  obtain rfl : Uh = fun i c => (Uh' i c : EReal) := funext fun i => funext fun c => hUh i c
  have hd : ∀ i j, sq (fun i c => (x' i c : EReal)) i j ≠ ⊥ := fun i j => by
    obtain ⟨r, hr⟩ := sq_real x' i j
    rw [hr]; exact EReal.coe_ne_bot r
  subst ha hm hσ
  obtain ⟨r1, d1, s1⟩ := dense_sparse hN _ s hs hd n x' A1' B1' b1'
  simp only [d1, s1, coe_relu]
  obtain ⟨r2, d2, s2⟩ := dense_sparse hN _ s hs hd n (fun i c => max (r1 i c) 0) A2' B2' b2'
  simp only [d2, s2]
  rw [Conv.update (x' i) (r2 i) Wx' Wh' bx bh (fun q => Ux' q o) (fun q => Uh' q o) (bu o)]

end Cert.Graph
end
-- ==== Proof.Agree.lean ====
/- The kernel's stack of images is the reference's features, under the precondition. -/
module

public import proofs.«01_k».proof.Proof.ImageAt
public import proofs.«01_k».proof.Proof.RefAt
public import proofs.«01_k».proof.Proof.Same

@[expose] public noncomputable section

set_option maxRecDepth 16384

namespace Cert.Agree
open Idealize.ShloMosaic
open Cert.KernelIdeal Cert.KernelIdeal.Gen
open Cert.KernelIdeal.Value (stack stack_at top bot topU botU)
open Cert.ReferenceIdeal.Value (features features_at nearest node)

/-- A vector of 384 as a row, at an index. -/
theorem row384_at (a : FVec Ideal S384 .f32) (o : Fin 384) : shapeCast S1x384 a shapeCasts_S384_S1x384 (ix2 0 o) = a (ix1 o) := by
  pointwise

/-- A vector of 768 as a row, at an index. -/
theorem row768_at (a : FVec Ideal S768 .f32) (o : Fin 768) : shapeCast S1x768 a shapeCasts_S768_S1x768 (ix2 0 o) = a (ix1 o) := by
  pointwise

/-- A vector of 500 as a row, at an index. -/
theorem row500_at (a : FVec Ideal S500 .f32) (o : Fin 500) : shapeCast S1x500 a shapeCasts_S500_S1x500 (ix2 0 o) = a (ix1 o) := by
  pointwise

/-- A vector of 64 as a row, at an index. -/
theorem row64_at (a : FVec Ideal S64 .f32) (o : Fin 64) : shapeCast S1x64 a shapeCasts_S64_S1x64 (ix2 0 o) = a (ix1 o) := by
  pointwise

/-- A vector of 32 as a row, at an index. -/
theorem row32_at (a : FVec Ideal S32 .f32) (o : Fin 32) : shapeCast S1x32 a shapeCasts_S32_S1x32 (ix2 0 o) = a (ix1 o) := by
  pointwise

/-- A vector of 9 as a row, at an index. -/
theorem row9_at (a : FVec Ideal S9 .f32) (o : Fin 9) : shapeCast S1x9 a shapeCasts_S9_S1x9 (ix2 0 o) = a (ix1 o) := by
  pointwise

/-- The first composed weight. -/
theorem pay2_at (U : FVec Ideal S768x768 .f32) (W : FVec Ideal S384x768 .f32) (c : Fin 384) (o : Fin 768) :
    k0_pay2 (F := Ideal) U W (ix2 c o) = ∑ q, W (ix2 c q) * U (ix2 q o) := by
  pointwise [k0_pay2]

/-- The second composed weight. -/
theorem pay3_at (U : FVec Ideal S768x768 .f32) (W : FVec Ideal S384x768 .f32) (c : Fin 384) (o : Fin 768) :
    k0_pay3 (F := Ideal) U W (ix2 c o) = ∑ q, W (ix2 c q) * U (ix2 q o) := by
  pointwise [k0_pay3]

/-- The composed bias. -/
theorem pay4_at (U V : FVec Ideal S768x768 .f32) (a b u : FVec Ideal S1x768 .f32) (o : Fin 768) :
    k0_pay4 (F := Ideal) U V a b u (ix2 0 o) = (∑ q, a (ix2 0 q) * U (ix2 q o) + ∑ q, b (ix2 0 q) * V (ix2 q o)) + u (ix2 0 o) := by
  pointwise [k0_pay4]

/-- The first convolution's difference of weights. -/
theorem pay5_at (A B : FVec Ideal S384x384 .f32) (c o : Fin 384) : k0_pay5 (F := Ideal) A B (ix2 c o) = A (ix2 c o) - B (ix2 c o) := by
  pointwise [k0_pay5]

/-- The second convolution's difference of weights. -/
theorem pay6_at (A B : FVec Ideal S384x384 .f32) (c o : Fin 384) : k0_pay6 (F := Ideal) A B (ix2 c o) = A (ix2 c o) - B (ix2 c o) := by
  pointwise [k0_pay6]

/-- The kernel's result at a node is the reference's. -/
theorem agree_at (X : FVec Ideal S32x196x384 .f32) (W1 : FVec Ideal S768x384 .f32) (b1 : FVec Ideal S384 .f32) (W2 : FVec Ideal S768x384 .f32)
    (b2 : FVec Ideal S384 .f32) (Wfc : FVec Ideal S384x768 .f32) (bfc : FVec Ideal S768 .f32) (Wio : FVec Ideal S384x768 .f32)
    (bio : FVec Ideal S768 .f32) (U : FVec Ideal S1536x768 .f32) (u : FVec Ideal S768 .f32) (P0 : FVec Ideal S384x500 .f32)
    (p0 : FVec Ideal S500 .f32) (P1 : FVec Ideal S500x64 .f32) (p1 : FVec Ideal S64 .f32) (P2 : FVec Ideal S64x32 .f32)
    (p2 : FVec Ideal S32 .f32) (P3 : FVec Ideal S32x9 .f32) (p3 : FVec Ideal S9 .f32)
    (hX : ∀ y, ∃ r : ℝ, X y = (r : EReal)) (hW1 : ∀ y, ∃ r : ℝ, W1 y = (r : EReal)) (hb1 : ∀ y, ∃ r : ℝ, b1 y = (r : EReal)) (hW2 : ∀ y, ∃ r : ℝ, W2 y = (r : EReal))
    (hb2 : ∀ y, ∃ r : ℝ, b2 y = (r : EReal)) (hWfc : ∀ y, ∃ r : ℝ, Wfc y = (r : EReal)) (hWio : ∀ y, ∃ r : ℝ, Wio y = (r : EReal)) (hU : ∀ y, ∃ r : ℝ, U y = (r : EReal))
    (hS : ∀ b i, Nearest.Sorted (Graph.sq (fun i c => X (ix3 b i c)) i) (nearest X b i))
    (b : Fin 32) (i : Fin 196) (o : Fin 768) :
    stack (n := 32) X W1 (shapeCast S1x384 b1 shapeCasts_S384_S1x384) W2 (shapeCast S1x384 b2 shapeCasts_S384_S1x384)
        P0 (shapeCast S1x500 p0 shapeCasts_S500_S1x500) P1 (shapeCast S1x64 p1 shapeCasts_S64_S1x64) P2 (shapeCast S1x32 p2 shapeCasts_S32_S1x32)
        P3 (shapeCast S1x9 p3 shapeCasts_S9_S1x9) (k0_pay2 (F := Ideal) (topU U) Wio) (k0_pay3 (F := Ideal) (botU U) Wfc)
        (k0_pay4 (F := Ideal) (topU U) (botU U) (shapeCast S1x768 bio shapeCasts_S768_S1x768) (shapeCast S1x768 bfc shapeCasts_S768_S1x768)
          (shapeCast S1x768 u shapeCasts_S768_S1x768))
        (k0_pay5 (F := Ideal) (top W1) (bot W1)) (k0_pay6 (F := Ideal) (top W2) (bot W2)) (ix3 b i o)
      = features X W1 b1 W2 b2 Wfc bfc Wio bio U u P0 p0 P1 p1 P2 p2 P3 p3 (ix2 (node b i) o) := by
  have hc : ReferenceIdeal.Value.counts X P0 p0 P1 p1 P2 p2 P3 p3 b
      = KernelIdeal.Value.count X P0 (shapeCast S1x500 p0 shapeCasts_S500_S1x500) P1 (shapeCast S1x64 p1 shapeCasts_S64_S1x64) P2
          (shapeCast S1x32 p2 shapeCasts_S32_S1x32) P3 (shapeCast S1x9 p3 shapeCasts_S9_S1x9) b := by
    funext i
    unfold ReferenceIdeal.Value.counts KernelIdeal.Value.count
    simp only [row500_at, row64_at, row32_at, row9_at]
  rw [stack_at _ _ _ _ _ _ _ _ _ _ _ _ _ _ _ _ _ _ b i o _ hc _ rfl, features_at X W1 b1 W2 b2 Wfc bfc Wio bio U u P0 p0 P1 p1 P2 p2 P3 p3 b i o _ rfl _ rfl _ rfl]
  simp only [row384_at, row768_at, pay2_at, pay3_at, pay4_at, pay5_at, pay6_at]
  exact Graph.network (by omega) (fun i c => X (ix3 b i c)) (fun i c => hX _) (nearest X b) (hS b) (ReferenceIdeal.Value.counts X P0 p0 P1 p1 P2 p2 P3 p3 b)
    (fun c o => top W1 (ix2 c o)) (fun c o => bot W1 (ix2 c o)) (fun c o => top W2 (ix2 c o)) (fun c o => bot W2 (ix2 c o)) (fun o => b1 (ix1 o))
    (fun o => b2 (ix1 o)) (fun c o => Wio (ix2 c o)) (fun c o => Wfc (ix2 c o)) (fun o => bio (ix1 o)) (fun o => bfc (ix1 o))
    (fun q o => topU U (ix2 q o)) (fun q o => botU U (ix2 q o)) (fun o => u (ix1 o)) (fun _ _ => hW1 _) (fun _ _ => hW1 _) (fun _ _ => hW2 _) (fun _ _ => hW2 _)
    (fun _ => hb1 _) (fun _ => hb2 _) (fun _ _ => hWio _) (fun _ _ => hWfc _) (fun _ _ => hU _) (fun _ _ => hU _) i o _ rfl _ rfl _ rfl

end Cert.Agree
end
-- ==== Proof.Claims.lean ====
/- The value claim: from memories agreeing on the arguments, under the precondition, the kernel and the reference return the same batch. -/
module

public import proofs.«01_k».proof.Defs
public import proofs.«01_k».proof.Proof.KernelRun
public import proofs.«01_k».proof.Proof.RefRun
public import proofs.«01_k».proof.Proof.Posed
public import proofs.«01_k».proof.Proof.Agree
public import Idealize.ShloMosaic.Lib.Quiescent

@[expose] public noncomputable section

set_option maxRecDepth 16384

namespace Cert.Claims
open Idealize.ShloMosaic Idealize.ShloMosaic.TcCoe Idealize.SL.Sem

/-- The reference's features as images of rows of nodes, at an index. -/
theorem images_rows (Y : FVec Ideal ReferenceIdeal.S6272x768 .f32) (b : Fin 32) (i : Fin 196) (o : Fin 768) :
    shapeCast ReferenceIdeal.S32x196x768 Y ReferenceIdeal.Gen.shapeCasts_S6272x768_S32x196x768 (ix3 b i o) = Y (ix2 (ReferenceIdeal.Value.node b i) o) := by
  pointwise
  rfl

/-- An entry of the batch, as an entry of the nodes' rows. -/
theorem nodes_real (a : FVec Ideal ReferenceIdeal.S32x384x14x14 .f32) (h : ∀ y, ∃ r : ℝ, a y = (r : EReal)) (y : ReferenceIdeal.S32x196x384.Idx) :
    ∃ r : ℝ, ReferenceIdeal.Value.nodes a y = (r : EReal) := h _

/-- The kernel's stack of images is the reference's rows of nodes, where the precondition holds. -/
theorem result_eq (m : (ℓ : Loc KernelIdeal.nD KernelIdeal.τ KernelIdeal.sig) → Buf (Elt Ideal) ℓ) (hpre : Pre_KernelIdeal_well_posed m)
    (c : Dev KernelIdeal.nD) :
    KernelIdeal.Value.output m c
      = ReferenceIdeal.Value.images (ReferenceIdeal.Value.features (ReferenceIdeal.Value.nodes (m ((c : Thread KernelIdeal.nD KernelIdeal.τ).loc KernelIdeal.main_arg0)))
          (m ((c : Thread KernelIdeal.nD KernelIdeal.τ).loc KernelIdeal.main_arg1)) (m ((c : Thread KernelIdeal.nD KernelIdeal.τ).loc KernelIdeal.main_arg2))
          (m ((c : Thread KernelIdeal.nD KernelIdeal.τ).loc KernelIdeal.main_arg3)) (m ((c : Thread KernelIdeal.nD KernelIdeal.τ).loc KernelIdeal.main_arg4))
          (m ((c : Thread KernelIdeal.nD KernelIdeal.τ).loc KernelIdeal.main_arg5)) (m ((c : Thread KernelIdeal.nD KernelIdeal.τ).loc KernelIdeal.main_arg6))
          (m ((c : Thread KernelIdeal.nD KernelIdeal.τ).loc KernelIdeal.main_arg7)) (m ((c : Thread KernelIdeal.nD KernelIdeal.τ).loc KernelIdeal.main_arg8))
          (m ((c : Thread KernelIdeal.nD KernelIdeal.τ).loc KernelIdeal.main_arg9)) (m ((c : Thread KernelIdeal.nD KernelIdeal.τ).loc KernelIdeal.main_arg10))
          (m ((c : Thread KernelIdeal.nD KernelIdeal.τ).loc KernelIdeal.main_arg11)) (m ((c : Thread KernelIdeal.nD KernelIdeal.τ).loc KernelIdeal.main_arg12))
          (m ((c : Thread KernelIdeal.nD KernelIdeal.τ).loc KernelIdeal.main_arg13)) (m ((c : Thread KernelIdeal.nD KernelIdeal.τ).loc KernelIdeal.main_arg14))
          (m ((c : Thread KernelIdeal.nD KernelIdeal.τ).loc KernelIdeal.main_arg15)) (m ((c : Thread KernelIdeal.nD KernelIdeal.τ).loc KernelIdeal.main_arg16))
          (m ((c : Thread KernelIdeal.nD KernelIdeal.τ).loc KernelIdeal.main_arg17)) (m ((c : Thread KernelIdeal.nD KernelIdeal.τ).loc KernelIdeal.main_arg18))) := by
  obtain ⟨p0, p1, p2, p3, p4, p5, p7, p9, ps⟩ := hpre c
  have hS := fun b i => Posed.sorted (ReferenceIdeal.Value.nodes (m ((c : Thread KernelIdeal.nD KernelIdeal.τ).loc KernelIdeal.main_arg0))) b i
    (Posed.decrease _ Pre_well_posed.Gen.sliceFits_S32x196x196_S32x196x9 Pre_well_posed.Gen.slices_S32x196x9_S32x196x8_0_0_1
      Pre_well_posed.Gen.slices_S32x196x9_S32x196x8_0_0_0 ps b i)
  unfold KernelIdeal.Value.output ReferenceIdeal.Value.images
  have key : KernelIdeal.Value.result m c = shapeCast ReferenceIdeal.S32x196x768 (ReferenceIdeal.Value.features
          (ReferenceIdeal.Value.nodes (m ((c : Thread KernelIdeal.nD KernelIdeal.τ).loc KernelIdeal.main_arg0)))
          (m ((c : Thread KernelIdeal.nD KernelIdeal.τ).loc KernelIdeal.main_arg1)) (m ((c : Thread KernelIdeal.nD KernelIdeal.τ).loc KernelIdeal.main_arg2))
          (m ((c : Thread KernelIdeal.nD KernelIdeal.τ).loc KernelIdeal.main_arg3)) (m ((c : Thread KernelIdeal.nD KernelIdeal.τ).loc KernelIdeal.main_arg4))
          (m ((c : Thread KernelIdeal.nD KernelIdeal.τ).loc KernelIdeal.main_arg5)) (m ((c : Thread KernelIdeal.nD KernelIdeal.τ).loc KernelIdeal.main_arg6))
          (m ((c : Thread KernelIdeal.nD KernelIdeal.τ).loc KernelIdeal.main_arg7)) (m ((c : Thread KernelIdeal.nD KernelIdeal.τ).loc KernelIdeal.main_arg8))
          (m ((c : Thread KernelIdeal.nD KernelIdeal.τ).loc KernelIdeal.main_arg9)) (m ((c : Thread KernelIdeal.nD KernelIdeal.τ).loc KernelIdeal.main_arg10))
          (m ((c : Thread KernelIdeal.nD KernelIdeal.τ).loc KernelIdeal.main_arg11)) (m ((c : Thread KernelIdeal.nD KernelIdeal.τ).loc KernelIdeal.main_arg12))
          (m ((c : Thread KernelIdeal.nD KernelIdeal.τ).loc KernelIdeal.main_arg13)) (m ((c : Thread KernelIdeal.nD KernelIdeal.τ).loc KernelIdeal.main_arg14))
          (m ((c : Thread KernelIdeal.nD KernelIdeal.τ).loc KernelIdeal.main_arg15)) (m ((c : Thread KernelIdeal.nD KernelIdeal.τ).loc KernelIdeal.main_arg16))
          (m ((c : Thread KernelIdeal.nD KernelIdeal.τ).loc KernelIdeal.main_arg17)) (m ((c : Thread KernelIdeal.nD KernelIdeal.τ).loc KernelIdeal.main_arg18)))
        ReferenceIdeal.Gen.shapeCasts_S6272x768_S32x196x768 := by
    funext y
    obtain ⟨b, i, o, rfl⟩ : ∃ (b : Fin 32) (i : Fin 196) (o : Fin 768), y = ix3 b i o := ⟨y 0, y 1, y 2, eq_ix3 y⟩
    rw [images_rows]
    exact Agree.agree_at _ _ _ _ _ _ _ _ _ _ _ _ _ _ _ _ _ _ _ (nodes_real _ (Posed.real_of_all _ Pre_well_posed.Gen.bcast_S_S32x384x14x14 p0))
      (Posed.real_of_all _ Pre_well_posed.Gen.bcast_S_S768x384 p1) (Posed.real_of_all _ Pre_well_posed.Gen.bcast_S_S384 p2)
      (Posed.real_of_all _ Pre_well_posed.Gen.bcast_S_S768x384 p3) (Posed.real_of_all _ Pre_well_posed.Gen.bcast_S_S384 p4)
      (Posed.real_of_all _ Pre_well_posed.Gen.bcast_S_S384x768 p5) (Posed.real_of_all _ Pre_well_posed.Gen.bcast_S_S384x768 p7)
      (Posed.real_of_all _ Pre_well_posed.Gen.bcast_S_S1536x768 p9) hS b i o
  rw [key]

/-- The value claim. -/
theorem algebraic : algebraic_KernelIdeal_ReferenceIdeal_pre_well_posed := by
  intro m g m' g' hpre hagree
  refine ⟨fun c => KernelIdeal.Value.output m c, KernelIdeal.Value.run m g, θ_run_mono (ReferenceIdeal.Value.run m' g') fun r h c => ⟨(h c).1.trans ?_, (h c).2⟩⟩
  obtain ⟨a0, a1, a2, a3, a4, a5, a6, a7, a8, a9, a10, a11, a12, a13, a14, a15, a16, a17, a18⟩ := hagree c
  refine Eq.trans ?_ (result_eq m hpre c).symm
  unfold ReferenceIdeal.Value.returned
  rw [a0, a1, a2, a3, a4, a5, a6, a7, a8, a9, a10, a11, a12, a13, a14, a15, a16, a17, a18]

/-- The named constant is what the rule allows. -/
theorem preserves : preserves_Kernel_KernelIdeal :=
  IdealRules.named_const.statement KernelIdeal.κ "far" .f32 0x7F61B1E6#32 ⊤ rfl

/-- The reference's frame. -/
theorem frame_ri : quiescent_ReferenceIdeal := fun m g _ =>
  θ_run_mono (ReferenceIdeal.Value.run m g) fun r h => ⟨fun c => (h c).2, sem_eq_zero_of_no_sems rfl _⟩

/-- The reference's frame under the value claim's precondition. -/
theorem frame_ri_pre : quiescent_ReferenceIdeal_pre_well_posed := fun m g _ =>
  θ_run_mono (ReferenceIdeal.Value.run m g) fun r h => ⟨fun c => (h c).2, sem_eq_zero_of_no_sems rfl _⟩

end Cert.Claims
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_well_posed
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The five claims: the frames of the kernel, of its ideal form and of the reference, the named constant, and the value claim. -/
theorem claim : Cert.Claim := ⟨Cert.Kernel.Gen.facts, Cert.KernelIdeal.Gen.facts, Cert.ReferenceIdeal.Gen.facts, Cert.Pre_well_posed.Gen.facts,
  fun m ρ _ => Cert.Kernel.Gen.frame m ρ, fun m ρ _ => Cert.KernelIdeal.Gen.frame m ρ, fun m ρ _ => Cert.KernelIdeal.Gen.frame m ρ,
  Cert.Claims.frame_ri, Cert.Claims.frame_ri_pre, Cert.Claims.preserves, Cert.Claims.algebraic⟩

end Cert.Proof

end
